-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_fillers [hPre_finite_fillers : Cert.Pre_finite_fillers.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_fillers.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_fillers [hPre_finite_fillers : Cert.Pre_finite_fillers.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_fillers.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_full_rank [hPre_full_rank : Cert.Pre_full_rank.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_full_rank.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_full_rank [hPre_full_rank : Cert.Pre_full_rank.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_full_rank.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite_fillers [hKernel2Ideal : Cert.Kernel2Ideal.Facts] [hPre_finite_fillers : Cert.Pre_finite_fillers.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_fillers m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite_fillers [hReference2Ideal : Cert.Reference2Ideal.Facts] [hPre_finite_fillers : Cert.Pre_finite_fillers.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_fillers m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_full_rank [hKernel3Ideal : Cert.Kernel3Ideal.Facts] [hPre_full_rank : Cert.Pre_full_rank.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_full_rank m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_full_rank [hReference3Ideal : Cert.Reference3Ideal.Facts] [hPre_full_rank : Cert.Pre_full_rank.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_full_rank m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite_fillers [hKernel2Ideal : Cert.Kernel2Ideal.Facts] [hReference2Ideal : Cert.Reference2Ideal.Facts] [hPre_finite_fillers : Cert.Pre_finite_fillers.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_fillers m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)) (v1 : (c : Dev Cert.Kernel2Ideal.nD) → Buf (Elt Ideal) ((c.tc : Thread Cert.Kernel2Ideal.nD Cert.Kernel2Ideal.τ).loc Cert.Kernel2Ideal.main_v4)) (v2 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_v4) = v1 c
          ∧ r.2.mem ((c.tc : Thread Cert.Kernel2Ideal.nD Cert.Kernel2Ideal.τ).loc Cert.Kernel2Ideal.main_v6) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_full_rank [hKernel3Ideal : Cert.Kernel3Ideal.Facts] [hReference3Ideal : Cert.Reference3Ideal.Facts] [hPre_full_rank : Cert.Pre_full_rank.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_full_rank m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v2)) (v1 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_v4) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_fillers : Cert.Pre_finite_fillers.Facts) (hPre_full_rank : Cert.Pre_full_rank.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_fillers (hKernel2Ideal := hKernel2Ideal) (hPre_finite_fillers := hPre_finite_fillers)
    ∧ quiescent_Reference2Ideal (hReference2Ideal := hReference2Ideal)
    ∧ quiescent_Reference2Ideal_pre_finite_fillers (hReference2Ideal := hReference2Ideal) (hPre_finite_fillers := hPre_finite_fillers)
    ∧ quiescent_Kernel3 (hKernel3 := hKernel3)
    ∧ quiescent_Kernel3Ideal (hKernel3Ideal := hKernel3Ideal)
    ∧ quiescent_Kernel3Ideal_pre_full_rank (hKernel3Ideal := hKernel3Ideal) (hPre_full_rank := hPre_full_rank)
    ∧ quiescent_Reference3Ideal (hReference3Ideal := hReference3Ideal)
    ∧ quiescent_Reference3Ideal_pre_full_rank (hReference3Ideal := hReference3Ideal) (hPre_full_rank := hPre_full_rank)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_fillers (hKernel2Ideal := hKernel2Ideal) (hReference2Ideal := hReference2Ideal) (hPre_finite_fillers := hPre_finite_fillers)
    ∧ preserves_Kernel3_Kernel3Ideal
    ∧ algebraic_Kernel3Ideal_Reference3Ideal_pre_full_rank (hKernel3Ideal := hKernel3Ideal) (hReference3Ideal := hReference3Ideal) (hPre_full_rank := hPre_full_rank)
-- ==== Pre_finite_fillers.lean ====
abbrev S64x512 : Shape := ⟨2, ![64, 512]⟩
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S64x512 .f32) (main_arg1 : FVec F S4096x512 .f32) : IVec S_ 1 :=
  let main_v0 : FVec F S4096x512 .f32 := Host.absf main_arg1
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Pre_full_rank.lean ====
abbrev S64x512 : Shape := ⟨2, ![64, 512]⟩
abbrev S4096x512 : Shape := ⟨2, ![4096, 512]⟩
abbrev S64x64 : Shape := ⟨2, ![64, 64]⟩
abbrev S64 : Shape := ⟨1, ![64]⟩
abbrev S512 : Shape := ⟨1, ![512]⟩
abbrev S512x512 : Shape := ⟨2, ![512, 512]⟩
abbrev S_ : Shape := ⟨0, ![]⟩
abbrev S512x64 : Shape := ⟨2, ![512, 64]⟩
abbrev S1x64 : Shape := ⟨2, ![1, 64]⟩
abbrev S512x4096 : Shape := ⟨2, ![512, 4096]⟩
abbrev S1x512 : Shape := ⟨2, ![1, 512]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  transposes_S64x64_S64x64_1_0 : S64x64.Transposes [1, 0] S64x64
  transposes_S64x512_S512x64_1_0 : S64x512.Transposes [1, 0] S512x64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  transposes_S4096x512_S512x4096_1_0 : S4096x512.Transposes [1, 0] S512x4096
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S64x64_S64x64_S64x64_1_0_0_1_n_n_wf : DotDims.WF S64x64 S64x64 S64x64 [1] [0] [0] [1] [] []
  dot_S64x512_S512x64_S64x64_1_0_0_1_n_n_wf : DotDims.WF S64x512 S512x64 S64x64 [1] [0] [0] [1] [] []
  dot_S64x64_S64x512_S64x512_1_0_0_1_n_n_wf : DotDims.WF S64x64 S64x512 S64x512 [1] [0] [0] [1] [] []
  dot_S512x4096_S4096x512_S512x512_1_0_0_1_n_n_wf : DotDims.WF S512x4096 S4096x512 S512x512 [1] [0] [0] [1] [] []
  dot_S512x512_S512x512_S512x512_1_0_0_1_n_n_wf : DotDims.WF S512x512 S512x512 S512x512 [1] [0] [0] [1] [] []
  dot_S4096x512_S512x512_S4096x512_1_0_0_1_n_n_wf : DotDims.WF S4096x512 S512x512 S4096x512 [1] [0] [0] [1] [] []

variable [Facts]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def fn_part5 {F : FTy → Type} [FloatOps F] (main_arg6 : FVec F S512 .f32) (main_v49 : IVec S_ 1) (main_v92 : IVec S_ 1) (main_cst_23 : FVec F S_ .f32) : IVec S_ 1 :=
  let main_v94 : FVec F S_ .f32 := (fun x v => Host.reduce FloatOps.maximumf x v reducesTo_S512_S_d0 h_S_) main_arg6 main_cst_23
  let main_cst_24 : FVec F S_ .f32 := constant S_ .f32 0x3A000000#32
  let main_v95 : FVec F S_ .f32 := mulf main_v94 main_cst_24
  let main_v96 : FVec F S512 .f32 := broadcastInDim S512 ![] bcast_S_S512 main_v95
  let main_v97 : IVec S512 1 := cmpf .ogt main_arg6 main_v96
  let main_c_25 : IVec S_ 1 := constantI S_ 1 1#1
  let main_v98 : IVec S_ 1 := (fun x v => Host.reduce IntOp.andi x v reducesTo_S512_S_d0 h_S_) main_v97 main_c_25
  let main_v99 : IVec S_ 1 := andi main_v92 main_v98
  let main_v100 : IVec S_ 1 := andi main_v49 main_v99
  main_v100

def fn_part4 {F : FTy → Type} [FloatOps F] (main_arg1 : FVec F S4096x512 .f32) (main_arg5 : FVec F S4096x512 .f32) (main_arg6 : FVec F S512 .f32) (main_arg7 : FVec F S512x512 .f32) (main_v49 : IVec S_ 1) (main_v63 : IVec S_ 1) (main_v73 : IVec S_ 1) : IVec S_ 1 :=
  let main_v74 : FVec F S512x512 .f32 := (transpose S512x512 [1, 0] · transposes_S512x512_S512x512_1_0) main_arg7
  let main_v75 : FVec F S512x512 .f32 := (fun l r => Host.dotGeneral dot_S512x512_S512x512_S512x512_1_0_0_1_n_n none l r) main_arg7 main_v74
  let main_v76 : IVec S512x512 32 := iotaInDim S512x512 32 0
  let main_v77 : IVec S512x512 32 := iotaInDim S512x512 32 1
  let main_c_20 : IVec S_ 32 := constantI S_ 32 0#32
  let main_v78 : IVec S512x512 32 := broadcastInDim S512x512 ![] bcast_S_S512x512 main_c_20
  let main_v79 : IVec S512x512 32 := addi main_v76 main_v78
  let main_v80 : IVec S512x512 1 := cmpi .eq main_v79 main_v77
  let main_v81 : FVec F S512x512 .f32 := uitofp .f32 main_v80
  let main_v82 : IVec S512x512 1 := cmpf .oeq main_v75 main_v81
  let main_c_21 : IVec S_ 1 := constantI S_ 1 1#1
  let main_v83 : IVec S_ 1 := (fun x v => Host.reduce IntOp.andi x v reducesTo_S512x512_S_d0_1 h_S_) main_v82 main_c_21
  let main_v84 : IVec S_ 1 := andi main_v63 main_v73
  let main_v85 : IVec S_ 1 := andi main_v84 main_v83
  let main_v86 : FVec F S1x512 .f32 := broadcastInDim S1x512 ![1] bcast_S512_S1x512_1 main_arg6
  let main_v87 : FVec F S4096x512 .f32 := broadcastInDim S4096x512 ![0, 1] bcast_S1x512_S4096x512_0_1 main_v86
  let main_v88 : FVec F S4096x512 .f32 := mulf main_arg5 main_v87
  let main_v89 : FVec F S4096x512 .f32 := (fun l r => Host.dotGeneral dot_S4096x512_S512x512_S4096x512_1_0_0_1_n_n none l r) main_v88 main_arg7
  let main_v90 : IVec S4096x512 1 := cmpf .oeq main_v89 main_arg1
  let main_c_22 : IVec S_ 1 := constantI S_ 1 1#1
  let main_v91 : IVec S_ 1 := (fun x v => Host.reduce IntOp.andi x v reducesTo_S4096x512_S_d0_1 h_S_) main_v90 main_c_22
  let main_v92 : IVec S_ 1 := andi main_v85 main_v91
  let main_v93 : FVec F S512x4096 .f32 := (transpose S512x4096 [1, 0] · transposes_S4096x512_S512x4096_1_0) main_arg1
  let main_cst_23 : FVec F S_ .f32 := constant S_ .f32 0xFF800000#32
  fn_part5 (F := F) main_arg6 main_v49 main_v92 main_cst_23

def fn_part3 {F : FTy → Type} [FloatOps F] (main_arg1 : FVec F S4096x512 .f32) (main_arg5 : FVec F S4096x512 .f32) (main_arg6 : FVec F S512 .f32) (main_arg7 : FVec F S512x512 .f32) (main_v49 : IVec S_ 1) (main_v53 : IVec S_ 1) (main_v54 : FVec F S512 .f32) (main_cst_14 : FVec F S_ .f32) : IVec S_ 1 :=
  let main_v55 : FVec F S512 .f32 := broadcastInDim S512 ![] bcast_S_S512 main_cst_14
  let main_v56 : IVec S512 1 := cmpf .olt main_v54 main_v55
  let main_c_15 : IVec S_ 1 := constantI S_ 1 1#1
  let main_v57 : IVec S_ 1 := (fun x v => Host.reduce IntOp.andi x v reducesTo_S512_S_d0 h_S_) main_v56 main_c_15
  let main_v58 : IVec S_ 1 := andi main_v53 main_v57
  let main_v59 : FVec F S512x512 .f32 := Host.absf main_arg7
  let main_cst_16 : FVec F S_ .f32 := constant S_ .f32 0x7F800000#32
  let main_v60 : FVec F S512x512 .f32 := broadcastInDim S512x512 ![] bcast_S_S512x512 main_cst_16
  let main_v61 : IVec S512x512 1 := cmpf .olt main_v59 main_v60
  let main_c_17 : IVec S_ 1 := constantI S_ 1 1#1
  let main_v62 : IVec S_ 1 := (fun x v => Host.reduce IntOp.andi x v reducesTo_S512x512_S_d0_1 h_S_) main_v61 main_c_17
  let main_v63 : IVec S_ 1 := andi main_v58 main_v62
  let main_v64 : FVec F S512x4096 .f32 := (transpose S512x4096 [1, 0] · transposes_S4096x512_S512x4096_1_0) main_arg5
  let main_v65 : FVec F S512x512 .f32 := (fun l r => Host.dotGeneral dot_S512x4096_S4096x512_S512x512_1_0_0_1_n_n none l r) main_v64 main_arg5
  let main_v66 : IVec S512x512 32 := iotaInDim S512x512 32 0
  let main_v67 : IVec S512x512 32 := iotaInDim S512x512 32 1
  let main_c_18 : IVec S_ 32 := constantI S_ 32 0#32
  let main_v68 : IVec S512x512 32 := broadcastInDim S512x512 ![] bcast_S_S512x512 main_c_18
  let main_v69 : IVec S512x512 32 := addi main_v66 main_v68
  let main_v70 : IVec S512x512 1 := cmpi .eq main_v69 main_v67
  let main_v71 : FVec F S512x512 .f32 := uitofp .f32 main_v70
  let main_v72 : IVec S512x512 1 := cmpf .oeq main_v65 main_v71
  let main_c_19 : IVec S_ 1 := constantI S_ 1 1#1
  let main_v73 : IVec S_ 1 := (fun x v => Host.reduce IntOp.andi x v reducesTo_S512x512_S_d0_1 h_S_) main_v72 main_c_19
  fn_part4 (F := F) main_arg1 main_arg5 main_arg6 main_arg7 main_v49 main_v63 main_v73

def fn_part2 {F : FTy → Type} [FloatOps F] (main_arg0 : FVec F S64x512 .f32) (main_arg1 : FVec F S4096x512 .f32) (main_arg2 : FVec F S64x64 .f32) (main_arg3 : FVec F S64 .f32) (main_arg4 : FVec F S64x512 .f32) (main_arg5 : FVec F S4096x512 .f32) (main_arg6 : FVec F S512 .f32) (main_arg7 : FVec F S512x512 .f32) (main_v35 : IVec S_ 1) (main_v37 : FVec F S64x64 .f32) : IVec S_ 1 :=
  let main_v38 : FVec F S64x64 .f32 := mulf main_arg2 main_v37
  let main_v39 : FVec F S64x512 .f32 := (fun l r => Host.dotGeneral dot_S64x64_S64x512_S64x512_1_0_0_1_n_n none l r) main_v38 main_arg4
  let main_v40 : IVec S64x512 1 := cmpf .oeq main_v39 main_arg0
  let main_c_8 : IVec S_ 1 := constantI S_ 1 1#1
  let main_v41 : IVec S_ 1 := (fun x v => Host.reduce IntOp.andi x v reducesTo_S64x512_S_d0_1 h_S_) main_v40 main_c_8
  let main_v42 : IVec S_ 1 := andi main_v35 main_v41
  let main_v43 : FVec F S512x64 .f32 := (transpose S512x64 [1, 0] · transposes_S64x512_S512x64_1_0) main_arg0
  let main_cst_9 : FVec F S_ .f32 := constant S_ .f32 0xFF800000#32
  let main_v44 : FVec F S_ .f32 := (fun x v => Host.reduce FloatOps.maximumf x v reducesTo_S64_S_d0 h_S_) main_arg3 main_cst_9
  let main_cst_10 : FVec F S_ .f32 := constant S_ .f32 0x38800000#32
  let main_v45 : FVec F S_ .f32 := mulf main_v44 main_cst_10
  let main_v46 : FVec F S64 .f32 := broadcastInDim S64 ![] bcast_S_S64 main_v45
  let main_v47 : IVec S64 1 := cmpf .ogt main_arg3 main_v46
  let main_c_11 : IVec S_ 1 := constantI S_ 1 1#1
  let main_v48 : IVec S_ 1 := (fun x v => Host.reduce IntOp.andi x v reducesTo_S64_S_d0 h_S_) main_v47 main_c_11
  let main_v49 : IVec S_ 1 := andi main_v42 main_v48
  let main_v50 : FVec F S4096x512 .f32 := Host.absf main_arg5
  let main_cst_12 : FVec F S_ .f32 := constant S_ .f32 0x7F800000#32
  let main_v51 : FVec F S4096x512 .f32 := broadcastInDim S4096x512 ![] bcast_S_S4096x512 main_cst_12
  let main_v52 : IVec S4096x512 1 := cmpf .olt main_v50 main_v51
  let main_c_13 : IVec S_ 1 := constantI S_ 1 1#1
  let main_v53 : IVec S_ 1 := (fun x v => Host.reduce IntOp.andi x v reducesTo_S4096x512_S_d0_1 h_S_) main_v52 main_c_13
  let main_v54 : FVec F S512 .f32 := Host.absf main_arg6
  let main_cst_14 : FVec F S_ .f32 := constant S_ .f32 0x7F800000#32
  fn_part3 (F := F) main_arg1 main_arg5 main_arg6 main_arg7 main_v49 main_v53 main_v54 main_cst_14

def fn_part1 {F : FTy → Type} [FloatOps F] (main_arg0 : FVec F S64x512 .f32) (main_arg1 : FVec F S4096x512 .f32) (main_arg2 : FVec F S64x64 .f32) (main_arg3 : FVec F S64 .f32) (main_arg4 : FVec F S64x512 .f32) (main_arg5 : FVec F S4096x512 .f32) (main_arg6 : FVec F S512 .f32) (main_arg7 : FVec F S512x512 .f32) (main_v13 : IVec S_ 1) (main_v15 : FVec F S64x64 .f32) (main_v16 : IVec S64x64 32) (main_v17 : IVec S64x64 32) : IVec S_ 1 :=
  let main_c_4 : IVec S_ 32 := constantI S_ 32 0#32
  let main_v18 : IVec S64x64 32 := broadcastInDim S64x64 ![] bcast_S_S64x64 main_c_4
  let main_v19 : IVec S64x64 32 := addi main_v16 main_v18
  let main_v20 : IVec S64x64 1 := cmpi .eq main_v19 main_v17
  let main_v21 : FVec F S64x64 .f32 := uitofp .f32 main_v20
  let main_v22 : IVec S64x64 1 := cmpf .oeq main_v15 main_v21
  let main_c_5 : IVec S_ 1 := constantI S_ 1 1#1
  let main_v23 : IVec S_ 1 := (fun x v => Host.reduce IntOp.andi x v reducesTo_S64x64_S_d0_1 h_S_) main_v22 main_c_5
  let main_v24 : FVec F S512x64 .f32 := (transpose S512x64 [1, 0] · transposes_S64x512_S512x64_1_0) main_arg4
  let main_v25 : FVec F S64x64 .f32 := (fun l r => Host.dotGeneral dot_S64x512_S512x64_S64x64_1_0_0_1_n_n none l r) main_arg4 main_v24
  let main_v26 : IVec S64x64 32 := iotaInDim S64x64 32 0
  let main_v27 : IVec S64x64 32 := iotaInDim S64x64 32 1
  let main_c_6 : IVec S_ 32 := constantI S_ 32 0#32
  let main_v28 : IVec S64x64 32 := broadcastInDim S64x64 ![] bcast_S_S64x64 main_c_6
  let main_v29 : IVec S64x64 32 := addi main_v26 main_v28
  let main_v30 : IVec S64x64 1 := cmpi .eq main_v29 main_v27
  let main_v31 : FVec F S64x64 .f32 := uitofp .f32 main_v30
  let main_v32 : IVec S64x64 1 := cmpf .oeq main_v25 main_v31
  let main_c_7 : IVec S_ 1 := constantI S_ 1 1#1
  let main_v33 : IVec S_ 1 := (fun x v => Host.reduce IntOp.andi x v reducesTo_S64x64_S_d0_1 h_S_) main_v32 main_c_7
  let main_v34 : IVec S_ 1 := andi main_v13 main_v23
  let main_v35 : IVec S_ 1 := andi main_v34 main_v33
  let main_v36 : FVec F S1x64 .f32 := broadcastInDim S1x64 ![1] bcast_S64_S1x64_1 main_arg3
  let main_v37 : FVec F S64x64 .f32 := broadcastInDim S64x64 ![0, 1] bcast_S1x64_S64x64_0_1 main_v36
  fn_part2 (F := F) main_arg0 main_arg1 main_arg2 main_arg3 main_arg4 main_arg5 main_arg6 main_arg7 main_v35 main_v37

def fn {F : FTy → Type} [FloatOps F] (main_arg0 : FVec F S64x512 .f32) (main_arg1 : FVec F S4096x512 .f32) (main_arg2 : FVec F S64x64 .f32) (main_arg3 : FVec F S64 .f32) (main_arg4 : FVec F S64x512 .f32) (main_arg5 : FVec F S4096x512 .f32) (main_arg6 : FVec F S512 .f32) (main_arg7 : FVec F S512x512 .f32) : IVec S_ 1 :=
  let main_v0 : FVec F S64x64 .f32 := Host.absf main_arg2
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x512 .f32 := Host.absf main_arg4
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x64 .f32 := (transpose S64x64 [1, 0] · transposes_S64x64_S64x64_1_0) main_arg2
  let main_v15 : FVec F S64x64 .f32 := (fun l r => Host.dotGeneral dot_S64x64_S64x64_S64x64_1_0_0_1_n_n none l r) main_v14 main_arg2
  let main_v16 : IVec S64x64 32 := iotaInDim S64x64 32 0
  let main_v17 : IVec S64x64 32 := iotaInDim S64x64 32 1
  fn_part1 (F := F) main_arg0 main_arg1 main_arg2 main_arg3 main_arg4 main_arg5 main_arg6 main_arg7 main_v13 main_v15 main_v16 main_v17
-- ==== Kernel.lean ====
abbrev S512x64x512 : Shape := ⟨3, ![512, 64, 512]⟩
abbrev S32768x512 : Shape := ⟨2, ![32768, 512]⟩
abbrev S512x32768 : Shape := ⟨2, ![512, 32768]⟩
abbrev S512x256 : Shape := ⟨2, ![512, 256]⟩
abbrev S8x128 : Shape := ⟨2, ![8, 128]⟩
abbrev S256x2x256 : Shape := ⟨3, ![256, 2, 256]⟩
abbrev S256x1x256 : Shape := ⟨3, ![256, 1, 256]⟩
abbrev S256x1x1 : Shape := ⟨3, ![256, 1, 1]⟩
abbrev S128x4x256 : Shape := ⟨3, ![128, 4, 256]⟩
abbrev S128x2x256 : Shape := ⟨3, ![128, 2, 256]⟩
abbrev S128x1x1 : Shape := ⟨3, ![128, 1, 1]⟩
abbrev S64x8x256 : Shape := ⟨3, ![64, 8, 256]⟩
abbrev S64x4x256 : Shape := ⟨3, ![64, 4, 256]⟩
abbrev S64x1x1 : Shape := ⟨3, ![64, 1, 1]⟩
abbrev S32x16x256 : Shape := ⟨3, ![32, 16, 256]⟩
abbrev S32x8x256 : Shape := ⟨3, ![32, 8, 256]⟩
abbrev S32x1x1 : Shape := ⟨3, ![32, 1, 1]⟩
abbrev S16x32x256 : Shape := ⟨3, ![16, 32, 256]⟩
abbrev S16x16x256 : Shape := ⟨3, ![16, 16, 256]⟩
abbrev S16x1x1 : Shape := ⟨3, ![16, 1, 1]⟩
abbrev S8x64x256 : Shape := ⟨3, ![8, 64, 256]⟩
abbrev S8x32x256 : Shape := ⟨3, ![8, 32, 256]⟩
abbrev S8x1x1 : Shape := ⟨3, ![8, 1, 1]⟩
abbrev S4x128x256 : Shape := ⟨3, ![4, 128, 256]⟩
abbrev S4x64x256 : Shape := ⟨3, ![4, 64, 256]⟩
abbrev S4x1x1 : Shape := ⟨3, ![4, 1, 1]⟩
abbrev S2x256x256 : Shape := ⟨3, ![2, 256, 256]⟩
abbrev S2x128x256 : Shape := ⟨3, ![2, 128, 256]⟩
abbrev S2x1x1 : Shape := ⟨3, ![2, 1, 1]⟩
abbrev S1x512x256 : Shape := ⟨3, ![1, 512, 256]⟩
abbrev S1x256x256 : Shape := ⟨3, ![1, 256, 256]⟩
abbrev S1x1x1 : Shape := ⟨3, ![1, 1, 1]⟩

abbrev nBuf : Space → Nat
  | .hbm => 10
  | .vmem => 7
  | .smem => 0
  | _ => 0

abbrev bufTy : (tb : Table) → Fin (tcTables nBuf tb) → BufTy
  | .hbm, ⟨0, _⟩ => ⟨S512x64x512, .f32⟩
  | .hbm, ⟨1, _⟩ => ⟨S512x64x512, .f32⟩
  | .hbm, ⟨2, _⟩ => ⟨S32768x512, .f32⟩
  | .hbm, ⟨3, _⟩ => ⟨S512x32768, .f32⟩
  | .hbm, ⟨4, _⟩ => ⟨S32768x512, .f32⟩
  | .hbm, ⟨5, _⟩ => ⟨S512x32768, .f32⟩
  | .hbm, ⟨6, _⟩ => ⟨S512x32768, .f32⟩
  | .hbm, ⟨7, _⟩ => ⟨S32768x512, .f32⟩
  | .hbm, ⟨8, _⟩ => ⟨S512x64x512, .f32⟩
  | .hbm, ⟨9, _⟩ => ⟨S512x32768, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x128, .f32⟩
  | _, _ => ⟨S512x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S512x64x512 : Shape := ⟨3, ![512, 64, 512]⟩
abbrev S_ : Shape := ⟨0, ![]⟩
abbrev S512x64x512x1 : Shape := ⟨4, ![512, 64, 512, 1]⟩
abbrev S1 : Shape := ⟨1, ![1]⟩
abbrev S1x1x1x1 : Shape := ⟨4, ![1, 1, 1, 1]⟩
abbrev S512x32768 : Shape := ⟨2, ![512, 32768]⟩

abbrev nBuf : Space → Nat
  | .hbm => 50
  | .vmem => 0
  | .smem => 0
  | _ => 0

abbrev bufTy : (tb : Table) → Fin (tcTables nBuf tb) → BufTy
  | .hbm, ⟨0, _⟩ => ⟨S512x64x512, .f32⟩
  | .hbm, ⟨1, _⟩ => ⟨S512x64x512, .f32⟩
  | .hbm, ⟨2, _⟩ => ⟨S512x64x512, .i32⟩
  | .hbm, ⟨3, _⟩ => ⟨S512x64x512, .f32⟩
  | .hbm, ⟨4, _⟩ => ⟨S512x64x512, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S512x64x512, .i32⟩
  | .hbm, ⟨12, _⟩ => ⟨S512x64x512, .i32⟩
  | .hbm, ⟨13, _⟩ => ⟨S_, .i32⟩
  | .hbm, ⟨14, _⟩ => ⟨S512x64x512, .i32⟩
  | .hbm, ⟨15, _⟩ => ⟨S512x64x512, .i1⟩
  | .hbm, ⟨16, _⟩ => ⟨S_, .i32⟩
  | .hbm, ⟨17, _⟩ => ⟨S512x64x512, .i32⟩
  | .hbm, ⟨18, _⟩ => ⟨S512x64x512, .i1⟩
  | .hbm, ⟨19, _⟩ => ⟨S_, .i32⟩
  | .hbm, ⟨20, _⟩ => ⟨S_, .i1⟩
  | .hbm, ⟨21, _⟩ => ⟨S512x64x512, .i1⟩
  | .hbm, ⟨22, _⟩ => ⟨S512x64x512, .i1⟩
  | .hbm, ⟨23, _⟩ => ⟨S512x64x512, .i1⟩
  | .hbm, ⟨24, _⟩ => ⟨S512x64x512, .i32⟩
  | .hbm, ⟨25, _⟩ => ⟨S512x64x512, .i32⟩
  | .hbm, ⟨26, _⟩ => ⟨S512x64x512, .i32⟩
  | .hbm, ⟨27, _⟩ => ⟨S_, .i32⟩
  | .hbm, ⟨28, _⟩ => ⟨S512x64x512, .i32⟩
  | .hbm, ⟨29, _⟩ => ⟨S512x64x512, .i1⟩
  | .hbm, ⟨30, _⟩ => ⟨S_, .i32⟩
  | .hbm, ⟨31, _⟩ => ⟨S512x64x512, .i32⟩
  | .hbm, ⟨32, _⟩ => ⟨S512x64x512, .i32⟩
  | .hbm, ⟨33, _⟩ => ⟨S512x64x512, .i32⟩
  | .hbm, ⟨34, _⟩ => ⟨S512x64x512x1, .i32⟩
  | .hbm, ⟨35, _⟩ => ⟨S1, .i32⟩
  | .hbm, ⟨36, _⟩ => ⟨S_, .i32⟩
  | .hbm, ⟨37, _⟩ => ⟨S512x64x512x1, .i32⟩
  | .hbm, ⟨38, _⟩ => ⟨S512x64x512x1, .i1⟩
  | .hbm, ⟨39, _⟩ => ⟨S1x1x1x1, .i32⟩
  | .hbm, ⟨40, _⟩ => ⟨S512x64x512x1, .i32⟩
  | .hbm, ⟨41, _⟩ => ⟨S512x64x512x1, .i1⟩
  | .hbm, ⟨42, _⟩ => ⟨S512x64x512x1, .i1⟩
  | .hbm, ⟨43, _⟩ => ⟨S_, .i1⟩
  | .hbm, ⟨44, _⟩ => ⟨S512x64x512, .i1⟩
  | .hbm, ⟨45, _⟩ => ⟨S512x64x512, .f32⟩
  | .hbm, ⟨46, _⟩ => ⟨S_, .f32⟩
  | .hbm, ⟨47, _⟩ => ⟨S512x64x512, .f32⟩
  | .hbm, ⟨48, _⟩ => ⟨S512x64x512, .f32⟩
  | .hbm, ⟨49, _⟩ => ⟨S512x32768, .f32⟩
  | _, _ => ⟨S512x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_call1_v0 : Ref sig .tc := ⟨.hbm, 6, rfl⟩
abbrev main_call1_c : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_c_1 : Ref sig .tc := ⟨.hbm, 13, rfl⟩
abbrev main_call1_v5 : Ref sig .tc := ⟨.hbm, 14, rfl⟩
abbrev main_call1_v6 : Ref sig .tc := ⟨.hbm, 15, rfl⟩
abbrev main_call1_c_2 : Ref sig .tc := ⟨.hbm, 16, rfl⟩
abbrev main_call1_v7 : Ref sig .tc := ⟨.hbm, 17, rfl⟩
abbrev main_call1_v8 : Ref sig .tc := ⟨.hbm, 18, rfl⟩
abbrev main_call1_c_3 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_v12 : Ref sig .tc := ⟨.hbm, 23, rfl⟩
abbrev main_call1_v13 : Ref sig .tc := ⟨.hbm, 24, rfl⟩
abbrev main_call1_v14 : Ref sig .tc := ⟨.hbm, 25, rfl⟩
abbrev main_v1 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v2 : Ref sig .tc := ⟨.hbm, 48, rfl⟩
abbrev main_v3 : Ref sig .tc := ⟨.hbm, 49, rfl⟩

abbrev nD : Nat := 1
abbrev τ : Topo := Topo.v7x

variable {F : FTy → Type} [FloatOps F]
-- ==== Kernel2.lean ====
abbrev S64x512 : Shape := ⟨2, ![64, 512]⟩
abbrev S4096x512 : Shape := ⟨2, ![4096, 512]⟩
abbrev S8x128 : Shape := ⟨2, ![8, 128]⟩
abbrev S64x64 : Shape := ⟨2, ![64, 64]⟩
abbrev S1x64x64 : Shape := ⟨3, ![1, 64, 64]⟩
abbrev S1 : Shape := ⟨1, ![1]⟩
abbrev S1x1x1 : Shape := ⟨3, ![1, 1, 1]⟩
abbrev S512x512 : Shape := ⟨2, ![512, 512]⟩
abbrev S1x4096x512 : Shape := ⟨3, ![1, 4096, 512]⟩
abbrev S1x512x512 : Shape := ⟨3, ![1, 512, 512]⟩
abbrev S512x1 : Shape := ⟨2, ![512, 1]⟩
abbrev S1x512x1 : Shape := ⟨3, ![1, 512, 1]⟩
abbrev S512 : Shape := ⟨1, ![512]⟩
abbrev S1x512 : Shape := ⟨2, ![1, 512]⟩
abbrev S64x1 : Shape := ⟨2, ![64, 1]⟩
abbrev S1x64x1 : Shape := ⟨3, ![1, 64, 1]⟩
abbrev S64 : Shape := ⟨1, ![64]⟩
abbrev S1x64 : Shape := ⟨2, ![1, 64]⟩
abbrev S1x1 : Shape := ⟨2, ![1, 1]⟩
abbrev S_ : Shape := ⟨0, ![]⟩

abbrev nBuf : Space → Nat
  | .hbm => 9
  | .vmem => 3
  | .smem => 0
  | _ => 0

abbrev bufTy : (tb : Table) → Fin (tcTables nBuf tb) → BufTy
  | .hbm, ⟨0, _⟩ => ⟨S64x512, .f32⟩
  | .hbm, ⟨1, _⟩ => ⟨S4096x512, .f32⟩
  | .hbm, ⟨2, _⟩ => ⟨S8x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .local _ .vmem, ⟨0, _⟩ => ⟨S64x512, .f32⟩
  | .local _ .vmem, ⟨1, _⟩ => ⟨S4096x512, .f32⟩
  | .local _ .vmem, ⟨2, _⟩ => ⟨S8x128, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v173 : BitVec 32 := Scalar.addi c0_i32 c512_i32
  let c1_i32 : BitVec 32 := 1#32
  ⟨c0_i32, v173, c1_i32⟩
@[reducible] def k0_t2_loop : Scf.Loop 32 :=
  let c0_i32_98 : BitVec 32 := 0#32
  let c64_i32 : BitVec 32 := 64#32
  let v322 : BitVec 32 := Scalar.addi c0_i32_98 c64_i32
  let c1_i32_99 : BitVec 32 := 1#32
  ⟨c0_i32_98, v322, c1_i32_99⟩
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference2Ideal.lean ====
abbrev S64x512 : Shape := ⟨2, ![64, 512]⟩
abbrev S4096x512 : Shape := ⟨2, ![4096, 512]⟩
abbrev S2 : Shape := ⟨1, ![2]⟩
abbrev S512x64 : Shape := ⟨2, ![512, 64]⟩
abbrev S64x64 : Shape := ⟨2, ![64, 64]⟩
abbrev S_ : Shape := ⟨0, ![]⟩
abbrev S512x4096 : Shape := ⟨2, ![512, 4096]⟩
abbrev S4096x4096 : Shape := ⟨2, ![4096, 4096]⟩
abbrev S1 : Shape := ⟨1, ![1]⟩

abbrev nBuf : Space → Nat
  | .hbm => 39
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S4096x512, .f32⟩
  | .hbm, ⟨2, _⟩ => ⟨S2, .f32⟩
  | .hbm, ⟨3, _⟩ => ⟨S512x64, .f32⟩
  | .hbm, ⟨4, _⟩ => ⟨S64x512, .f32⟩
  | .hbm, ⟨5, _⟩ => ⟨S64x64, .f32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i1⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S512x4096, .f32⟩
  | .hbm, ⟨19, _⟩ => ⟨S4096x512, .f32⟩
  | .hbm, ⟨20, _⟩ => ⟨S4096x4096, .f32⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S2, .f32⟩
  | .hbm, ⟨36, _⟩ => ⟨S2, .f32⟩
  | .hbm, ⟨37, _⟩ => ⟨S_, .f32⟩
  | .hbm, ⟨38, _⟩ => ⟨S_, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel3.lean ====
abbrev S64x512 : Shape := ⟨2, ![64, 512]⟩
abbrev S4096x512 : Shape := ⟨2, ![4096, 512]⟩
abbrev S64x64 : Shape := ⟨2, ![64, 64]⟩
abbrev S64 : Shape := ⟨1, ![64]⟩
abbrev S512 : Shape := ⟨1, ![512]⟩
abbrev S512x512 : Shape := ⟨2, ![512, 512]⟩
abbrev S8x128 : Shape := ⟨2, ![8, 128]⟩
abbrev S1x64x64 : Shape := ⟨3, ![1, 64, 64]⟩
abbrev S1 : Shape := ⟨1, ![1]⟩
abbrev S1x1x1 : Shape := ⟨3, ![1, 1, 1]⟩
abbrev S1x4096x512 : Shape := ⟨3, ![1, 4096, 512]⟩
abbrev S1x512x512 : Shape := ⟨3, ![1, 512, 512]⟩
abbrev S512x1 : Shape := ⟨2, ![512, 1]⟩
abbrev S1x512x1 : Shape := ⟨3, ![1, 512, 1]⟩
abbrev S1x512 : Shape := ⟨2, ![1, 512]⟩
abbrev S64x1 : Shape := ⟨2, ![64, 1]⟩
abbrev S1x64x1 : Shape := ⟨3, ![1, 64, 1]⟩
abbrev S1x64 : Shape := ⟨2, ![1, 64]⟩
abbrev S1x1 : Shape := ⟨2, ![1, 1]⟩
abbrev S_ : Shape := ⟨0, ![]⟩

abbrev nBuf : Space → Nat
  | .hbm => 13
  | .vmem => 3
  | .smem => 0
  | _ => 0

abbrev bufTy : (tb : Table) → Fin (tcTables nBuf tb) → BufTy
  | .hbm, ⟨0, _⟩ => ⟨S64x512, .f32⟩
  | .hbm, ⟨1, _⟩ => ⟨S4096x512, .f32⟩
  | .hbm, ⟨2, _⟩ => ⟨S64x64, .f32⟩
  | .hbm, ⟨3, _⟩ => ⟨S64, .f32⟩
  | .hbm, ⟨4, _⟩ => ⟨S64x512, .f32⟩
  | .hbm, ⟨5, _⟩ => ⟨S4096x512, .f32⟩
  | .hbm, ⟨6, _⟩ => ⟨S512, .f32⟩
  | .hbm, ⟨7, _⟩ => ⟨S512x512, .f32⟩
  | .hbm, ⟨8, _⟩ => ⟨S8x128, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .local _ .vmem, ⟨0, _⟩ => ⟨S64x512, .f32⟩
  | .local _ .vmem, ⟨1, _⟩ => ⟨S4096x512, .f32⟩
  | .local _ .vmem, ⟨2, _⟩ => ⟨S8x128, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v173 : BitVec 32 := Scalar.addi c0_i32 c512_i32
  let c1_i32 : BitVec 32 := 1#32
  ⟨c0_i32, v173, c1_i32⟩
@[reducible] def k0_t2_loop : Scf.Loop 32 :=
  let c0_i32_98 : BitVec 32 := 0#32
  let c64_i32 : BitVec 32 := 64#32
  let v322 : BitVec 32 := Scalar.addi c0_i32_98 c64_i32
  let c1_i32_99 : BitVec 32 := 1#32
  ⟨c0_i32_98, v322, c1_i32_99⟩
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference3Ideal.lean ====
abbrev S64x512 : Shape := ⟨2, ![64, 512]⟩
abbrev S4096x512 : Shape := ⟨2, ![4096, 512]⟩
abbrev S64x64 : Shape := ⟨2, ![64, 64]⟩
abbrev S64 : Shape := ⟨1, ![64]⟩
abbrev S512 : Shape := ⟨1, ![512]⟩
abbrev S512x512 : Shape := ⟨2, ![512, 512]⟩
abbrev S512x64 : Shape := ⟨2, ![512, 64]⟩
abbrev S_ : Shape := ⟨0, ![]⟩
abbrev S512x4096 : Shape := ⟨2, ![512, 4096]⟩

abbrev nBuf : Space → Nat
  | .hbm => 38
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S4096x512, .f32⟩
  | .hbm, ⟨2, _⟩ => ⟨S64x64, .f32⟩
  | .hbm, ⟨3, _⟩ => ⟨S64, .f32⟩
  | .hbm, ⟨4, _⟩ => ⟨S64x512, .f32⟩
  | .hbm, ⟨5, _⟩ => ⟨S4096x512, .f32⟩
  | .hbm, ⟨6, _⟩ => ⟨S512, .f32⟩
  | .hbm, ⟨7, _⟩ => ⟨S512x512, .f32⟩
  | .hbm, ⟨8, _⟩ => ⟨S512x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S64, .i1⟩
  | .hbm, ⟨15, _⟩ => ⟨S64, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S512x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S512, .f32⟩
  | .hbm, ⟨29, _⟩ => ⟨S512, .i1⟩
  | .hbm, ⟨30, _⟩ => ⟨S512, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S_, .f32⟩
  | .hbm, ⟨37, _⟩ => ⟨S_, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_v18 : Ref sig .tc := ⟨.hbm, 35, rfl⟩
abbrev main_cst_7 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== Proof.Stages.lean ====
/- The sorting network on vectors: one compare-exchange stage of the kernel as a function of the three arrays it carries
   (keys, positions, fillers), for any block size, and the whole network as a list of stages. No program is mentioned here. -/
module

public import Idealize.ShloMosaic.PureOps
public import Idealize.ShloMosaic.Lib.ShapeFacts

@[expose] public section

noncomputable section

namespace Cert.Net

open Idealize.ShloMosaic

variable {F : FTy → Type} [FloatOps F]

/-- The shape of the carried arrays: 512 positions of 256 independent columns. -/
abbrev Flat : Shape := ⟨2, ![512, 256]⟩

/-- `n` blocks of `s` positions of the 256 columns. -/
abbrev Blk (n s : Nat) : Shape := ⟨3, ![n, s, 256]⟩

/-- One word per block. -/
abbrev Per (n : Nat) : Shape := ⟨3, ![n, 1, 1]⟩

theorem casts_blk {n s : Nat} (h : n * (2 * s) = 512) : Flat.ShapeCasts (Blk n (2 * s)) := by
  simp [Shape.ShapeCasts, Shape.numel_rank2, Shape.numel_rank3, h]

theorem casts_flat {n s : Nat} (h : n * (2 * s) = 512) : (Blk n (2 * s)).ShapeCasts Flat := (casts_blk h).symm

theorem slices_lo (n s : Nat) : (Blk n (2 * s)).Slices ![0, 0, 0] (Blk n s) := by
  refine ⟨rfl, fun a => ?_⟩
  fin_cases a
  · exact (Nat.zero_add n).le
  · show 0 + s ≤ 2 * s
    omega
  · exact (Nat.zero_add 256).le

theorem slices_hi (n s : Nat) : (Blk n (2 * s)).Slices ![0, s, 0] (Blk n s) := by
  refine ⟨rfl, fun a => ?_⟩
  fin_cases a
  · exact (Nat.zero_add n).le
  · show s + s ≤ 2 * s
    omega
  · exact (Nat.zero_add 256).le

theorem iotas_per (n : Nat) : (Per n).Iotas .tc 32 [0] :=
  ⟨List.nodup_singleton _, fun _ => ⟨.inr rfl, Nat.le_succ 2⟩, fun h => absurd rfl h⟩

theorem iotas_flat : Flat.Iotas .tc 32 [0] := ⟨by decide, fun _ => ⟨.inr rfl, Nat.le_refl 2⟩, fun h => absurd rfl h⟩

theorem broadcasts_per (n s : Nat) : (Per n).Broadcasts (Blk n s) := by
  refine ⟨Nat.le_refl 3, fun a => ?_⟩
  fin_cases a
  · exact .inr fun _ => rfl
  · exact .inl rfl
  · exact .inl rfl

theorem concatenates_blk (n s : Nat) : Shape.Concatenates [Blk n s, Blk n s] (Blk n (2 * s)) 1 := by
  refine ⟨Nat.le_refl 2, ?_, ?_⟩
  · intro t ht
    simp only [List.mem_cons, List.mem_nil_iff, or_false, or_self] at ht
    subst ht
    exact ⟨rfl, fun b hb => by fin_cases b <;> first | rfl | exact absurd rfl hb⟩
  · show s + (s + 0) = 2 * s
    omega

/-- The lower halves of the blocks of `2 * s` positions. -/
def lo {α : Type} {n s : Nat} (h : n * (2 * s) = 512) (x : Flat.Idx → α) : (Blk n s).Idx → α :=
  extractStridedSlice (Blk n s) ![0, 0, 0] (shapeCast (Blk n (2 * s)) x (casts_blk h)) (slices_lo n s)

/-- The upper halves. -/
def hi {α : Type} {n s : Nat} (h : n * (2 * s) = 512) (x : Flat.Idx → α) : (Blk n s).Idx → α :=
  extractStridedSlice (Blk n s) ![0, s, 0] (shapeCast (Blk n (2 * s)) x (casts_blk h)) (slices_hi n s)

/-- Whether a block descends: bit `sh` of the block's number. -/
def descends (n : Nat) (sh : Nat) : IVec (Per n) 1 :=
  cmpi .eq (andi (shrsi (iota .tc (Per n) 32 [0] (iotas_per n)) (broadcast (Per n) (BitVec.ofNat 32 sh))) (broadcast (Per n) 1#32))
    (broadcast (Per n) 1#32)

/-- Whether a pair is exchanged: the lower (key, position) exceeds the upper, or the block descends, not both. -/
def swaps {n s : Nat} (h : n * (2 * s) = 512) (sh : Nat) (K : FVec F Flat .f32) (I : IVec Flat 32) : IVec (Blk n s) 1 :=
  xori (ori (cmpf .ogt (lo h K) (hi h K)) (andi (cmpf .oeq (lo h K) (hi h K)) (cmpi .sgt (lo h I) (hi h I))))
    (broadcastTo (Blk n s) (descends n sh) (broadcasts_per n s))

/-- An array after the exchanges `w`. -/
def mix {α : Type} {n s : Nat} (h : n * (2 * s) = 512) (w : IVec (Blk n s) 1) (x : Flat.Idx → α) : Flat.Idx → α :=
  shapeCast Flat (concatenate (Blk n (2 * s)) 1 [⟨Blk n s, select w (hi h x) (lo h x)⟩, ⟨Blk n s, select w (lo h x) (hi h x)⟩]
    (concatenates_blk n s)) (casts_flat h)

/-- The three arrays the network carries. -/
structure Arr (F : FTy → Type) where
  K : FVec F Flat .f32
  I : IVec Flat 32
  X : FVec F Flat .f32

/-- One stage. -/
def stage {n s : Nat} (h : n * (2 * s) = 512) (sh : Nat) (a : Arr F) : Arr F :=
  ⟨mix h (swaps h sh a.K a.I) a.K, mix h (swaps h sh a.K a.I) a.I, mix h (swaps h sh a.K a.I) a.X⟩

theorem blocks_eq {s : Nat} (hs : s ≤ 8) : 2 ^ (8 - s) * (2 * 2 ^ s) = 512 := by
  rcases (by omega : s = 0 ∨ s = 1 ∨ s = 2 ∨ s = 3 ∨ s = 4 ∨ s = 5 ∨ s = 6 ∨ s = 7 ∨ s = 8) with
    rfl | rfl | rfl | rfl | rfl | rfl | rfl | rfl | rfl <;> rfl

/-- Stage `s` of level `l`: the pairs are `2 ^ s` apart, the blocks that alternate in direction have `2 ^ (l + 1)` positions. -/
def stageAt (p : Nat × Nat) (a : Arr F) : Arr F :=
  if h : p.2 ≤ 8 then stage (blocks_eq h) (p.1 - p.2) a else a

/-- The network's stages in order, each as its level and the power of two of its distance. -/
def order : List (Nat × Nat) := (List.range 9).flatMap fun l => (List.range (l + 1)).reverse.map fun s => (l, s)

/-- The network's input: the keys, every position its own number, the fillers. -/
def start (x y : FVec F Flat .f32) : Arr F := ⟨x, iota .tc Flat 32 [0] iotas_flat, y⟩

/-- The arrays after every stage. -/
def sorted (x y : FVec F Flat .f32) : Arr F := order.foldl (fun a p => stageAt p a) (start x y)

end Cert.Net

end
-- ==== Proof.Found.lean ====
/- What a grid point of the kernel stores, as the network of `Stages.lean`. -/
module

public import proofs.«01_k».proof.Proof.Gen.KernelIdeal.Frame
public import proofs.«01_k».proof.Proof.Stages
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic

variable {F : FTy → Type} [FloatOps F]

/-- The one piece the body stores is the network's fillers over the two loads. -/
theorem stored_eq (c : Dev nD) (i : grid0.Coords) (arg1 : Memref sig .tc .vmem S512x256 .f32) (harg1 : arg1.IsWhole)
    (arg2 : Memref sig .tc .vmem S512x256 .f32) (harg2 : arg2.IsWhole) (arg3 : Memref sig .tc .vmem S512x256 .f32)
    (harg3 : arg3.IsWhole) (arg4 : Memref sig .tc .vmem S8x128 .f32) (harg4 : arg4.IsWhole)
    (x0 : Vec F S512x256 .f32) (x1 : Vec F S512x256 .f32) :
    (kernelRun0_A c i arg1 harg1 arg2 harg2 arg3 harg3 arg4 harg4 x0 x1).1
      = [⟨Rect.unit ![0, 0] ![512, 256] inb_S512x256_S512x256_0_0,
          (Net.sorted
            (shapeCast S512x256 (View.readAt (Elt F) arg1.view (Rect.unit ![0, 0] S512x256.size inb_S512x256_S512x256_0_0).toLoadRect
              (harg1.unread x0)) shapeCasts_S512x256_S512x256)
            (shapeCast S512x256 (View.readAt (Elt F) arg2.view (Rect.unit ![0, 0] S512x256.size inb_S512x256_S512x256_0_0).toLoadRect
              (harg2.unread x1)) shapeCasts_S512x256_S512x256)).X⟩] := by
  sl_kernel_rfl

end Cert.KernelIdeal.Gen

end
-- ==== Proof.Order.lean ====
/- Sorting by a key and then by position: what the bitonic network leaves and what a stable sort by the key alone leaves are
   the same rearrangement. No program and no vector is mentioned here. -/
module

public import Idealize.ShloMosaic.Lib.SortNet.Sorts
public import Idealize.ShloMosaic.Lib.SortPrefix
public import Mathlib.Data.EReal.Basic
public import Mathlib.Data.Prod.Lex

@[expose] public section

noncomputable section

namespace Cert.Net

open Idealize.ShloMosaic Idealize.ShloMosaic.SortNet

variable {n : Nat}

/-- A position with its key, ordered by the key and then by the position. -/
abbrev Ent (n : Nat) : Type := EReal ×ₗ Fin n

/-- The entries of a column of keys. -/
def entries (x : Fin n → EReal) (i : Fin n) : Ent n := toLex (x i, i)

/-- Sorts strictly before, by the key alone. -/
def keyLt (x : Fin n → EReal) (i j : Fin n) : Bool := decide (x i < x j)

/-- Sorts strictly before, by the key and then the position. -/
def pairLt (x : Fin n → EReal) (i j : Fin n) : Bool :=
  decide (x i < x j) || (decide (x i = x j) && decide (i < j))

theorem pairLt_iff (x : Fin n → EReal) (i j : Fin n) : pairLt x i j = true ↔ entries x i < entries x j := by
  unfold pairLt entries
  rw [Prod.Lex.toLex_lt_toLex]
  simp

/-- By key and position is a strict total order. -/
theorem pairLt_strict (x : Fin n → EReal) : StrictTotalBefore (pairLt x) :=
  StrictTotalBefore.of_key_then_position (fun a b : EReal => decide (a < b)) x (fun a => by simp)
    (fun a b c hab hbc => by simp only [decide_eq_true_eq] at *; exact lt_trans hab hbc)
    (fun a b => by simp only [decide_eq_true_eq]; exact lt_trichotomy a b)

/-- A stable insertion sort asks its comparator only about a later element against an earlier one: two comparators that agree
    there sort alike. -/
theorem stableSort_eq_of_pairwise {ι : Type} (R R' : ι → ι → Bool) :
    ∀ l : List ι, l.Pairwise (fun a b => R b a = R' b a) → stableSort R l = stableSort R' l
  | [], _ => rfl
  | a :: l, h => by
    rw [List.pairwise_cons] at h
    unfold stableSort
    rw [stableSort_eq_of_pairwise R R' l h.2]
    exact insertBefore_congr R R' a _ fun b hb => h.1 b ((perm_stableSort R' l).mem_iff.mp hb)

/-- The stable sort by the key is the sort by the key and then the position. -/
theorem sortedFrom_keyLt (x : Fin n → EReal) : sortedFrom (keyLt x) = sortedFrom (pairLt x) := by
  have h : sortPositions n (keyLt x) = sortPositions n (pairLt x) := by
    refine stableSort_eq_of_pairwise _ _ _ ((List.pairwise_lt_finRange _).imp fun {a b} hab => ?_)
    simp [keyLt, pairLt, hab.le]
  funext k
  unfold sortedFrom
  rw [List.get_of_eq h]
  rfl

/-- A NETWORK THAT SORTS: entry `k` of its output is at the position that the stable sort by the key puts at `k`. -/
theorem network_apply (N : Network n) (x : Fin n → EReal) (hm : Monotone (N.apply (entries x))) (k : Fin n) :
    (ofLex (N.apply (entries x) k)).2 = sortedFrom (keyLt x) k := by
  obtain ⟨σ, hσ⟩ := Network.exists_perm N (entries x)
  rw [hσ] at hm
  have hs := (pairLt_strict x).sortedFrom_eq_of_prefix (le_refl n) σ σ.injective
    (fun i j hij => by
      rw [← Bool.not_eq_true, pairLt_iff]
      exact not_lt.mpr (hm hij.le))
    (fun i q hq => absurd (σ.apply_symm_apply q) (hq _)) k
  rw [hσ, sortedFrom_keyLt]
  exact hs.symm

end Cert.Net
-- ==== Proof.Lanes.lean ====
/- The network of stages read one column at a time: each column of the three carried arrays is a vector of (key, position)
   entries, and a stage applies the sorting network's stage to it. -/
module

public import proofs.«01_k».proof.Proof.Stages
public import proofs.«01_k».proof.Proof.Order
public import Idealize.ShloMosaic.Lib.ValueIdx
public import Idealize.ShloMosaic.Lib.Pipeline.Value

@[expose] public section

noncomputable section

namespace Cert.Net

open Idealize.ShloMosaic Idealize.ShloMosaic.ValueIdx Idealize.ShloMosaic.SortNet

/-! ## The vector operations at an index -/

section Layout
variable {α : Type} {n s : Nat} (h : n * (2 * s) = 512)

/-- The flat position with the row-major rank of row `r` of block `q`. -/
theorem rank_eq {m : Nat} (q : Fin n) (r : Fin m) (c : Fin 256) (i : Fin 512) (hi : i.val = q.val * m + r.val) :
    (Flat.rowMajor (ix2 i c)).val = ((Blk n m).rowMajor (ix3 q r c)).val := by
  rw [Shape.rowMajor_val_two, Shape.rowMajor_val_three]
  show i.val * 256 + c.val = (q.val * m + r.val) * 256 + c.val
  rw [hi]

/-- A lower half at an index. -/
theorem lo_apply (x : Flat.Idx → α) (q : Fin n) (r : Fin s) (c : Fin 256) (i : Fin 512) (hi : i.val = q.val * (2 * s) + r.val) :
    lo h x (ix3 q r c) = x (ix2 i c) := by
  unfold lo
  rw [extractStridedSlice_apply _ _ _ _ (ix3 q (⟨r.val, by omega⟩ : Fin (2 * s)) c) (fun a => by
    fin_cases a <;> exact (Nat.zero_add _).symm)]
  exact shapeCast_apply _ _ _ _ (rank_eq q _ c i hi)

/-- An upper half at an index. -/
theorem hi_apply (x : Flat.Idx → α) (q : Fin n) (r : Fin s) (c : Fin 256) (i : Fin 512)
    (hi' : i.val = q.val * (2 * s) + r.val + s) : hi h x (ix3 q r c) = x (ix2 i c) := by
  unfold hi
  rw [extractStridedSlice_apply _ _ _ _ (ix3 q (⟨s + r.val, by omega⟩ : Fin (2 * s)) c) (fun a => by
    fin_cases a
    · exact (Nat.zero_add _).symm
    · rfl
    · exact (Nat.zero_add _).symm)]
  exact shapeCast_apply _ _ _ _ (rank_eq q _ c i (by rw [hi']; show _ = _ + (s + r.val); omega))

variable (w : IVec (Blk n s) 1) (x : Flat.Idx → α) (q : Fin n) (r : Fin s) (c : Fin 256) (i i' : Fin 512)
  (hi : i.val = q.val * (2 * s) + r.val) (hi' : i'.val = i.val + s)
include hi hi'

/-- After the exchanges a lower position holds the upper element where the pair was exchanged. -/
theorem mix_lower : mix h w x (ix2 i c) = Scalar.select (w (ix3 q r c)) (x (ix2 i' c)) (x (ix2 i c)) := by
  unfold mix
  rw [shapeCast_apply _ _ _ (ix3 q (⟨r.val, by omega⟩ : Fin (2 * s)) c) (rank_eq q _ c i hi).symm]
  refine (concatenate_pair_apply_left (t := Blk n (2 * s)) (s₁ := Blk n s) (s₂ := Blk n s) (1 : Fin 3) _ _ _ _ rfl (ix3 q r c)
    (fun b => match b with | ⟨0, _⟩ => rfl | ⟨1, _⟩ => rfl | ⟨2, _⟩ => rfl)).trans ?_
  show Scalar.select _ (Net.hi h x (ix3 q r c)) (lo h x (ix3 q r c)) = _
  rw [hi_apply h x q r c i' (by omega), lo_apply h x q r c i hi]

/-- After the exchanges an upper position holds the lower element where the pair was exchanged. -/
theorem mix_upper : mix h w x (ix2 i' c) = Scalar.select (w (ix3 q r c)) (x (ix2 i c)) (x (ix2 i' c)) := by
  unfold mix
  rw [shapeCast_apply _ _ _ (ix3 q (⟨s + r.val, by omega⟩ : Fin (2 * s)) c)
      (rank_eq q _ c i' (by rw [hi', hi]; show _ = _ + (s + r.val); omega)).symm]
  refine (concatenate_pair_apply_right (t := Blk n (2 * s)) (s₁ := Blk n s) (s₂ := Blk n s) (1 : Fin 3) _ _ _
    (ix3 q (⟨s + r.val, by omega⟩ : Fin (2 * s)) c) rfl rfl (ix3 q r c)
    (fun b hb => match b with | ⟨0, _⟩ => rfl | ⟨1, _⟩ => absurd rfl hb | ⟨2, _⟩ => rfl) (Nat.add_comm r.val s)).trans ?_
  show Scalar.select _ (lo h x (ix3 q r c)) (Net.hi h x (ix3 q r c)) = _
  rw [hi_apply h x q r c i' (by omega), lo_apply h x q r c i hi]

end Layout

/-! ## The exchange condition -/

/-- The direction of block `q`: bit `sh` of its number. -/
theorem descends_apply {n sh : Nat} (hsh : sh < 32) (q : Fin n) (hq : q.val < 2 ^ 31) :
    descends n sh (ix3 q 0 0) = BitVec.ofBool (q.val.testBit sh) := by
  have h1 : IntOp.shrsi .vector (BitVec.ofNat 32 q.val) (BitVec.ofNat 32 sh) = BitVec.ofNat 32 (q.val >>> sh) := by
    have hs : (BitVec.ofNat 32 sh).toNat = sh := by simp; omega
    have hm : (BitVec.ofNat 32 q.val).msb = false := by
      rw [BitVec.msb_eq_decide]; simp; omega
    unfold IntOp.shrsi
    rw [hs, if_pos hsh, BitVec.sshiftRight', hs, BitVec.sshiftRight_eq_of_msb_false hm]
    apply BitVec.eq_of_toNat_eq
    have := Nat.shiftRight_le q.val sh
    simp only [BitVec.toNat_ushiftRight, BitVec.toNat_ofNat]
    rw [Nat.mod_eq_of_lt (by omega), Nat.mod_eq_of_lt (by omega)]
  show IntOp.cmpi .eq (IntOp.andi (IntOp.shrsi .vector (BitVec.ofNat 32 (0 * n + q.val)) (BitVec.ofNat 32 sh)) 1#32) 1#32 = _
  rw [Nat.zero_mul, Nat.zero_add, h1]
  show BitVec.ofBool (BitVec.ofNat 32 (q.val >>> sh) &&& 1#32 == 1#32) = _
  congr 1
  rw [Nat.testBit, Bool.eq_iff_iff]
  rw [beq_iff_eq, bne_iff_ne, ← BitVec.toNat_inj]
  have h2 := Nat.shiftRight_le q.val sh
  generalize q.val >>> sh = m at h2
  simp only [BitVec.toNat_and, BitVec.toNat_ofNat, Nat.and_comm 1]
  rw [Nat.mod_eq_of_lt (show m < 2 ^ 32 by omega), Nat.mod_eq_of_lt (show 1 < 2 ^ 32 by decide), Nat.and_one_is_mod]
  omega

/-- Positions compare as the words that number them. -/
theorem slt_pos (i j : Fin 512) : (BitVec.ofNat 32 i.val).slt (BitVec.ofNat 32 j.val) = decide (i < j) := by
  have hi := i.isLt
  have hj := j.isLt
  rw [BitVec.slt, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

theorem ofBool_or (a b : Bool) : IntOp.ori (BitVec.ofBool a) (BitVec.ofBool b) = BitVec.ofBool (a || b) := by cases a <;> cases b <;> rfl
theorem ofBool_and (a b : Bool) : IntOp.andi (BitVec.ofBool a) (BitVec.ofBool b) = BitVec.ofBool (a && b) := by cases a <;> cases b <;> rfl
theorem ofBool_xor (a b : Bool) : IntOp.xori (BitVec.ofBool a) (BitVec.ofBool b) = BitVec.ofBool (a ^^ b) := by cases a <;> cases b <;> rfl

/-- The entries exceed as their keys do, and as their positions do where the keys are equal. -/
theorem exceeds (a b : Ent 512) :
    ((decide ((ofLex b).1 < (ofLex a).1)) || (decide ((ofLex a).1 = (ofLex b).1) && decide ((ofLex b).2 < (ofLex a).2)))
      = decide (b < a) := by
  rw [Bool.eq_iff_iff]
  simp only [Bool.or_eq_true, Bool.and_eq_true, decide_eq_true_eq, Prod.Lex.lt_iff]
  tauto

/-! ## A column as a vector of entries -/

/-- Column `c` of the carried arrays is the vector `v` of entries, the fillers `f` following their positions. -/
def Holds (f : Fin 512 → EReal) (c : Fin 256) (a : Arr Ideal) (v : Fin 512 → Ent 512) : Prop :=
  ∀ p : Fin 512, a.K (ix2 p c) = (ofLex (v p)).1 ∧ a.I (ix2 p c) = BitVec.ofNat 32 (ofLex (v p)).2.val ∧ a.X (ix2 p c) = f (ofLex (v p)).2

/-- Whether a pair is exchanged, by its entries. -/
theorem swaps_apply {f : Fin 512 → EReal} {c : Fin 256} {a : Arr Ideal} {v : Fin 512 → Ent 512} (ha : Holds f c a v) {n s sh : Nat}
    (h : n * (2 * s) = 512) (hsh : sh < 32) (q : Fin n) (hq : q.val < 2 ^ 31) (r : Fin s) (i i' : Fin 512)
    (hi : i.val = q.val * (2 * s) + r.val) (hi' : i'.val = i.val + s) :
    swaps h sh a.K a.I (ix3 q r c) = BitVec.ofBool (decide (v i' < v i) ^^ q.val.testBit sh) := by
  have e : broadcastTo (Blk n s) (descends n sh) (broadcasts_per n s) (ix3 q r c) = BitVec.ofBool (q.val.testBit sh) := by
    rw [broadcastTo_apply _ _ _ (ix3 q 0 0) (fun b => by
      fin_cases b
      · show q.val = if n = 1 then 0 else q.val
        have := q.isLt
        split <;> omega
      · rfl
      · rfl)]
    exact descends_apply hsh q hq
  show IntOp.xori (IntOp.ori (Ideal.cmp .ogt (lo h a.K (ix3 q r c)) (Net.hi h a.K (ix3 q r c)))
    (IntOp.andi (Ideal.cmp .oeq (lo h a.K (ix3 q r c)) (Net.hi h a.K (ix3 q r c)))
      (IntOp.cmpi .sgt (lo h a.I (ix3 q r c)) (Net.hi h a.I (ix3 q r c)))))
    (broadcastTo (Blk n s) (descends n sh) (broadcasts_per n s) (ix3 q r c)) = _
  rw [e, lo_apply h a.K q r c i hi, hi_apply h a.K q r c i' (by omega), lo_apply h a.I q r c i hi, hi_apply h a.I q r c i' (by omega),
    (ha i).1, (ha i').1, (ha i).2.1, (ha i').2.1]
  show IntOp.xori (IntOp.ori (BitVec.ofBool (decide _)) (IntOp.andi (BitVec.ofBool (decide _)) (BitVec.ofBool (BitVec.slt _ _)))) _ = _
  rw [slt_pos, ofBool_and, ofBool_or, ofBool_xor, exceeds]

/-- The three components of an element that a select chose between two entries' components. -/
theorem holds_select {f : Fin 512 → EReal} {c : Fin 256} {a : Arr Ideal} {v : Fin 512 → Ent 512} (ha : Holds f c a v) (b : Bool)
    (i i' : Fin 512) (e : Ent 512) (he : e = if b then v i' else v i) :
    Scalar.select (BitVec.ofBool b) (a.K (ix2 i' c)) (a.K (ix2 i c)) = (ofLex e).1
      ∧ Scalar.select (BitVec.ofBool b) (a.I (ix2 i' c)) (a.I (ix2 i c)) = BitVec.ofNat 32 (ofLex e).2.val
      ∧ Scalar.select (BitVec.ofBool b) (a.X (ix2 i' c)) (a.X (ix2 i c)) = f (ofLex e).2 := by
  subst he
  cases b
  · exact ha i
  · exact ha i'

/-- A pair in order after a compare-exchange with a direction. -/
theorem exchange_min (u w : Ent 512) (d : Bool) :
    (if d then max u w else min u w) = if (decide (w < u) ^^ d) then w else u := by
  cases d <;> by_cases hw : w < u <;> simp [hw, max_def, min_def, not_le.mpr, le_of_lt, not_lt.mp]

theorem exchange_max (u w : Ent 512) (d : Bool) :
    (if d then min u w else max u w) = if (decide (w < u) ^^ d) then u else w := by
  cases d <;> by_cases hw : w < u <;> simp [hw, max_def, min_def, le_of_lt, not_lt.mp]

/-- The network's stage `s` of level `l`. -/
def netAt (p : Nat × Nat) : Network (2 ^ 9) := SortNet.stage 9 p.2 fun i => decide (i.val &&& 2 ^ (p.1 + 1) = 0) == false

/-- ONE STAGE on vectors is the network's stage on every column. -/
theorem holds_stageAt {f : Fin 512 → EReal} {c : Fin 256} {a : Arr Ideal} {v : Fin 512 → Ent 512} (ha : Holds f c a v) (p : Nat × Nat)
    (h1 : p.2 ≤ p.1) (h2 : p.1 ≤ 8) : Holds f c (stageAt p a) (Network.apply (netAt p) v) := by
  obtain ⟨l, s⟩ := p
  dsimp only at h1 h2
  have hs : s ≤ 8 := h1.trans h2
  have key : ∀ i : Fin (2 ^ 9), i.val &&& 2 ^ s = 0 → ∃ (q : Fin (2 ^ (8 - s))) (r : Fin (2 ^ s)),
      i.val = q.val * (2 * 2 ^ s) + r.val ∧ q.val.testBit (l - s) = i.val.testBit (l + 1) := by
    intro i hi
    have hb := (and_two_pow_eq_zero_iff_testBit i.val s).mp hi
    have h512 : 2 ^ (8 - s) * (2 * 2 ^ s) = 512 := blocks_eq hs
    have hpos : 0 < 2 ^ s := Nat.two_pow_pos s
    have hlt : i.val < 512 := i.isLt
    have hmod : i.val % (2 * 2 ^ s) < 2 ^ s := by
      rw [Nat.testBit_eq_decide_div_mod_eq] at hb
      have hb' : i.val / 2 ^ s % 2 = 0 := by
        have := of_decide_eq_false hb; omega
      rw [Nat.mul_comm 2, Nat.mod_mul, hb']
      simpa using Nat.mod_lt _ hpos
    refine ⟨⟨i.val / (2 * 2 ^ s), Nat.div_lt_of_lt_mul (by rw [Nat.mul_comm, h512]; exact hlt)⟩, ⟨i.val % (2 * 2 ^ s), hmod⟩, ?_, ?_⟩
    · exact (Nat.div_add_mod' _ _).symm
    · show (i.val / (2 * 2 ^ s)).testBit (l - s) = _
      rw [← Nat.pow_succ', Nat.testBit_div_two_pow]
      congr 1
      omega
  have pair : ∀ i : Fin 512, i.val &&& 2 ^ s = 0 → ∀ p : Fin 512, p = i ∨ p = partner 9 s i →
      (stageAt (l, s) a).K (ix2 p c) = (ofLex (Network.apply (netAt (l, s)) v p)).1
        ∧ (stageAt (l, s) a).I (ix2 p c) = BitVec.ofNat 32 (ofLex (Network.apply (netAt (l, s)) v p)).2.val
        ∧ (stageAt (l, s) a).X (ix2 p c) = f (ofLex (Network.apply (netAt (l, s)) v p)).2 := by
    intro i hi p hp
    obtain ⟨q, r, hqr, hbit⟩ := key i hi
    have hpart : (partner 9 s i).val = i.val + 2 ^ s := partner_val_of_clear (Nat.lt_succ_of_le hs) i hi
    have hq : q.val < 2 ^ 31 := q.isLt.trans_le (Nat.pow_le_pow_right (by decide) (by omega))
    have hw := swaps_apply ha (blocks_eq hs) (sh := l - s) (by omega) q hq r i (partner 9 s i) hqr hpart
    have hnet := apply_stage (Nat.lt_succ_of_le hs : s < 9) (fun i => decide (i.val &&& 2 ^ (l + 1) = 0) == false) v i hi
    have hdir : (decide (i.val &&& 2 ^ (l + 1) = 0) == false) = q.val.testBit (l - s) := by
      rw [hbit]
      have := and_two_pow_eq_zero_iff_testBit i.val (l + 1)
      by_cases h0 : i.val &&& 2 ^ (l + 1) = 0
      · rw [this.mp h0]; simp [h0]
      · rw [Bool.eq_true_of_not_eq_false (fun h => h0 (this.mpr h))]; simp [h0]
    simp only [hdir] at hnet
    rw [exchange_min, exchange_max] at hnet
    unfold stageAt
    rw [dif_pos hs]
    show mix _ _ _ _ = _ ∧ mix _ _ _ _ = _ ∧ mix _ _ _ _ = _
    rcases hp with rfl | rfl
    · rw [mix_lower (blocks_eq hs) _ a.K q r c _ _ hqr hpart, mix_lower (blocks_eq hs) _ a.I q r c _ _ hqr hpart,
        mix_lower (blocks_eq hs) _ a.X q r c _ _ hqr hpart, hw]
      exact holds_select ha _ _ _ _ hnet.1
    · rw [mix_upper (blocks_eq hs) _ a.K q r c _ _ hqr hpart, mix_upper (blocks_eq hs) _ a.I q r c _ _ hqr hpart,
        mix_upper (blocks_eq hs) _ a.X q r c _ _ hqr hpart, hw]
      exact holds_select ha _ _ _ _ hnet.2
  intro p
  by_cases hp : p.val &&& 2 ^ s = 0
  · exact pair p hp p (.inl rfl)
  · exact pair (partner 9 s p) (partner_and_of_set (Nat.lt_succ_of_le hs) p hp) p
      (.inr (partner_partner (Nat.lt_succ_of_le hs) p).symm)

/-- A list of stages on vectors is the network of those stages on every column. -/
theorem holds_foldl {f : Fin 512 → EReal} {c : Fin 256} :
    ∀ (L : List (Nat × Nat)) (a : Arr Ideal) (v : Fin 512 → Ent 512), Holds f c a v → (∀ p ∈ L, p.2 ≤ p.1 ∧ p.1 ≤ 8) →
      Holds f c (L.foldl (fun a p => stageAt p a) a) (Network.apply (L.flatMap netAt) v)
  | [], _, _, ha, _ => ha
  | p :: L, a, v, ha, hL => by
    rw [List.foldl_cons, List.flatMap_cons, Network.apply_append]
    exact holds_foldl L _ _ (holds_stageAt ha p (hL p List.mem_cons_self).1 (hL p List.mem_cons_self).2)
      fun p hp => hL p (List.mem_cons_of_mem _ hp)

/-- The stages in order are the bitonic sorting network of 512 positions. -/
theorem order_net : order.flatMap netAt = sortNet 9 false := by
  unfold order sortNet
  simp only [List.flatMap_assoc, List.flatMap_map]
  rfl

theorem order_range : ∀ p ∈ order, p.2 ≤ p.1 ∧ p.1 ≤ 8 := by decide

/-- The network's input holds every position's key and number. -/
theorem holds_start (x y : FVec Ideal Flat .f32) (c : Fin 256) :
    Holds (fun p => y (ix2 p c)) c (start x y) (entries fun p => x (ix2 p c)) := by
  intro p
  refine ⟨rfl, ?_, rfl⟩
  show BitVec.ofNat 32 (0 * 512 + p.val) = BitVec.ofNat 32 p.val
  rw [Nat.zero_mul, Nat.zero_add]

/-- WHAT THE NETWORK LEAVES: position `p` of a column of fillers holds the filler at the position that the stable sort of the
    column of keys puts there. -/
theorem sorted_apply (x y : FVec Ideal Flat .f32) (p : Fin 512) (c : Fin 256) :
    (sorted x y).X (ix2 p c) = y (ix2 (sortedFrom (keyLt fun k : Fin 512 => x (ix2 k c)) p) c) := by
  have h := (holds_foldl order _ _ (holds_start x y c) order_range p).2.2
  rw [order_net] at h
  exact h.trans (congrArg (fun k : Fin 512 => y (ix2 k c)) (network_apply (n := 512) (sortNet 9 false) _ (sortNet_apply_monotone 9 _) p))

end Cert.Net
-- ==== Proof.Columns.lean ====
/- The kernel's result as one function of its arguments: what a grid point writes back, the array the grid leaves, and the
   transposes and reshapes around it. -/
module

public import proofs.«01_k».proof.Proof.Found
public import proofs.«01_k».proof.Proof.Lanes
public import Idealize.ShloMosaic.Lib.Pipeline.Value
public import Idealize.ShloMosaic.Lib.StableHlo.Run
public import Idealize.ShloMosaic.Lib.Tactic

@[expose] public section

noncomputable section

namespace Cert.Net

open Idealize.ShloMosaic Idealize.ShloMosaic.ValueIdx

/-- The arguments' shape: 512 batches of 64 rows of 512 elements. -/
abbrev Cube : Shape := ⟨3, ![512, 64, 512]⟩

/-- The position that the stable sort of a row of `x` puts at place `d`. -/
def place (x : FVec Ideal Cube .f32) (b : Fin 512) (r : Fin 64) (d : Fin 512) : Fin 512 :=
  sortedFrom (keyLt fun k : Fin 512 => x (ix3 b r k)) d

/-- THE ANSWER: every row of `y` in the order that sorts that row of `x`. -/
def bound (x y : FVec Ideal Cube .f32) : FVec Ideal Cube .f32 := fun j => y (ix3 (j 0) (j 1) (place x (j 0) (j 1) (j 2)))

/-- All rows side by side as columns. -/
abbrev Cols : Shape := ⟨2, ![512, 32768]⟩

/-- Every column of `y` in the order that sorts that column of `x`. -/
def columns (x y : FVec Ideal Cols .f32) : FVec Ideal Cols .f32 :=
  fun i => y (ix2 (sortedFrom (keyLt fun k : Fin 512 => x (ix2 k (i 1))) (i 0)) (i 1))

end Cert.Net

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

section Any
variable {F : FTy → Type} [FloatOps F]

/-- What the body leaves in the output's staging buffer: the network's fillers over the two input blocks. -/
theorem out_eq (c : Dev nD) (i : grid0.Coords) (arg1 : Memref sig .tc .vmem S512x256 .f32) (harg1 : arg1.IsWhole)
    (arg2 : Memref sig .tc .vmem S512x256 .f32) (harg2 : arg2.IsWhole) (arg3 : Memref sig .tc .vmem S512x256 .f32)
    (harg3 : arg3.IsWhole) (arg4 : Memref sig .tc .vmem S8x128 .f32) (harg4 : arg4.IsWhole)
    (x0 : Vec F S512x256 .f32) (x1 : Vec F S512x256 .f32) :
    out0_A_2 c i arg1 harg1 arg2 harg2 arg3 harg3 arg4 harg4 x0 x1 = (Net.sorted x0 x1).X := by
  unfold out0_A_2
  rw [View.read_writes_eq_canon _ _ _ (cover0_A_2 c i arg1 harg1 arg2 harg2 arg3 harg3 arg4 harg4 x0 x1), stored_eq,
    View.canon_unit_zero (S := S512x256) hz]
  simp only [View.readAt_eq_ld, harg1.read_unread, harg2.read_unread, View.ld_unit_zero (S := S512x256) hz]
  exact congrArg₂ (fun a b => (Net.sorted a b).X) (shapeCast_self _ _) (shapeCast_self _ _)

end Any

variable (m : (ℓ : Loc nD τ sig) → Buf (Elt Ideal) ℓ) (ρ : Dev nD → PrngReg)

/-- Point `t` is block `t` of each window's columns. -/
theorem index_eq (t : Fin cfg0.N) : (win0_0.index t 0 = 0 ∧ win0_0.index t 1 = t.val) ∧ (win0_1.index t 0 = 0 ∧ win0_1.index t 1 = t.val)
    ∧ (win0_2.index t 0 = 0 ∧ win0_2.index t 1 = t.val) := by
  have h : t.val < 128 := (show cfg0.N = 128 from N_0) ▸ t.isLt
  have e : (grid0.coords t 0).val = t.val := by
    rw [Pipeline.Grid.coords_val t 0 (S := 1) (B := 128) (by decide) rfl, Nat.div_one, Nat.mod_eq_of_lt h]
  have e' : (BitVec.ofNat 32 (grid0.coords t 0).val).toNat = t.val := by
    rw [e, BitVec.toNat_ofNat, Nat.mod_eq_of_lt (by omega)]
  exact ⟨⟨rfl, e'⟩, ⟨rfl, e'⟩, ⟨rfl, e'⟩⟩

/-- Column `c'` of block `t` among all the columns. -/
abbrev colAt (t : Fin cfg0.N) (c' : Fin 256) : Fin 32768 :=
  ⟨t.val * 256 + c'.val, by have : t.val < 128 := (show cfg0.N = 128 from N_0) ▸ t.isLt; omega⟩

/-- The block of keys at an index. -/
theorem keys_apply (c : Dev nD) (t : Fin cfg0.N) (p : Fin 512) (c' : Fin 256) :
    iblk m c 0 t (ix2 p c') = V m c main_v1 (ix2 p (colAt t c')) := by
  unfold iblk
  refine congrArg (V m c main_v1) (funext fun a => Fin.ext ?_)
  match a with
  | ⟨0, _⟩ => show win0_0.index t 0 * 512 + 1 * p.val = p.val; rw [(index_eq t).1.1]; omega
  | ⟨1, _⟩ => show win0_0.index t 1 * 256 + 1 * c'.val = t.val * 256 + c'.val; rw [(index_eq t).1.2]; omega

/-- The block of fillers at an index. -/
theorem fillers_apply (c : Dev nD) (t : Fin cfg0.N) (p : Fin 512) (c' : Fin 256) :
    iblk m c 1 t (ix2 p c') = V m c main_v3 (ix2 p (colAt t c')) := by
  unfold iblk
  refine congrArg (V m c main_v3) (funext fun a => Fin.ext ?_)
  match a with
  | ⟨0, _⟩ => show win0_1.index t 0 * 512 + 1 * p.val = p.val; rw [(index_eq t).2.1.1]; omega
  | ⟨1, _⟩ => show win0_1.index t 1 * 256 + 1 * c'.val = t.val * 256 + c'.val; rw [(index_eq t).2.1.2]; omega

/-- The array the grid leaves. -/
abbrev result (c : Dev nD) : Buf (Elt Ideal) ((c : Thread nD τ).loc main_v4) := Net.columns (V m c main_v1) (V m c main_v3)

/-- A block of the result at an index. -/
theorem result_apply (c : Dev nD) (t : Fin cfg0.N) (p : Fin 512) (c' : Fin 256) :
    ((cfg0.win 2).blk t).view.read (Elt Ideal) (result m c) (ix2 p c') = result m c (ix2 p (colAt t c')) := by
  refine congrArg (result m c) (funext fun a => Fin.ext ?_)
  match a with
  | ⟨0, _⟩ => show win0_2.index t 0 * 512 + 1 * p.val = p.val; rw [(index_eq t).2.2.1]; omega
  | ⟨1, _⟩ => show win0_2.index t 1 * 256 + 1 * c'.val = t.val * 256 + c'.val; rw [(index_eq t).2.2.2]; omega

/-- What point `t` leaves in the output's staging buffer at an index. -/
theorem outsAt_apply (c : Dev nD) (t : Fin cfg0.N) (p : Fin 512) (c' : Fin 256) :
    outsAt0 m c t (ix2 p c') = result m c (ix2 p (colAt t c')) := by
  have e : outsAt0 m c t = (Net.sorted (F := Ideal) (iblk m c 0 t) (iblk m c 1 t)).X := out_eq ..
  refine (congrFun e (ix2 p c')).trans ((Net.sorted_apply _ _ p c').trans ((fillers_apply m c t _ c').trans ?_))
  refine congrArg (fun f : Fin 512 → EReal => V m c main_v3 (ix2 (sortedFrom (Net.keyLt f) p) (colAt t c'))) ?_
  exact funext fun k => keys_apply m c t k c'

/-- What point `t` writes back is block `t` of the sorted columns. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  funext j
  obtain ⟨p, c', rfl⟩ : ∃ (p : Fin 512) (c' : Fin 256), j = ix2 p c' := ⟨j 0, j 1, eq_ix2 j⟩
  refine Eq.trans ?_ (result_apply m c t p c').symm
  exact outsAt_apply m c t p c'

/-- Every column is in some point's block. -/
theorem cover (i : S512x32768.Idx) : ∃ t : Fin cfg0.N, (cfg0.win 2).flush t = true ∧ i ∈ ((cfg0.win 2).blk t).view.set := by
  have h0 : (i 0 : Nat) < 512 := (i 0).isLt
  have h1 : (i 1 : Nat) < 32768 := (i 1).isLt
  have hN : cfg0.N = 128 := N_0
  let t : Fin cfg0.N := ⟨(i 1 : Nat) / 256, by omega⟩
  refine ⟨t, flush0_2 _, ?_⟩
  show i ∈ ((View.whole main_v4).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [(index_eq t).2.2.1]; omega
  | ⟨1, _⟩ =>
    show win0_2.index t 1 * 256 ≤ (i 1 : Nat) ∧ (i 1 : Nat) < win0_2.index t 1 * 256 + 256
    rw [(index_eq t).2.2.2]; show (i 1 : Nat) / 256 * 256 ≤ _ ∧ _ < (i 1 : Nat) / 256 * 256 + 256; omega

/-- So the grid leaves the sorted columns. -/
theorem final (c : Dev nD) : (dats m 0 c).arrAt 2 cfg0.N = result m c :=
  (dats m 0 c).arrAt_eq_of_cover 2 (result m c) (fun t _ => flushed_eq m c t) cover

/-- The rows as columns. -/
abbrev asCols (x : FVec Ideal S512x64x512 .f32) : FVec Ideal S512x32768 .f32 :=
  transpose S512x32768 [1, 0] (shapeCast S32768x512 x shapeCasts_S512x64x512_S32768x512) transposes_S32768x512_S512x32768_1_0

/-- The columns as rows. -/
abbrev asRows (x : FVec Ideal S512x32768 .f32) : FVec Ideal S512x64x512 .f32 :=
  shapeCast S512x64x512 (transpose S32768x512 [1, 0] x transposes_S512x32768_S32768x512_1_0) shapeCasts_S32768x512_S512x64x512

theorem keys_eq (c : Dev nD) : V m c main_v1 = asCols (m ((c : Thread nD τ).loc main_arg0)) := by
  show StableHlo.after hostOps0 _ (Proc.devRef .tc main_v1) = _
  after_results
  rfl

theorem fillers_eq (c : Dev nD) : V m c main_v3 = asCols (m ((c : Thread nD τ).loc main_arg1)) := by
  show StableHlo.after hostOps0 _ (Proc.devRef .tc main_v3) = _
  after_results
  rfl

/-- Row `r` of batch `b` among all the rows. -/
abbrev rowAt (b : Fin 512) (r : Fin 64) : Fin 32768 := ⟨b.val * 64 + r.val, by omega⟩

theorem asCols_apply (x : FVec Ideal S512x64x512 .f32) (b : Fin 512) (r : Fin 64) (d : Fin 512) :
    asCols x (ix2 d (rowAt b r)) = x (ix3 b r d) := by
  unfold asCols
  rw [transpose_apply _ _ _ _ (ix2 (rowAt b r) d) (fun a => by fin_cases a <;> rfl)]
  refine shapeCast_apply _ _ _ _ ?_
  rw [Shape.rowMajor_val_two, Shape.rowMajor_val_three]
  rfl

theorem asRows_apply (x : FVec Ideal S512x32768 .f32) (b : Fin 512) (r : Fin 64) (d : Fin 512) :
    asRows x (ix3 b r d) = x (ix2 d (rowAt b r)) := by
  unfold asRows
  rw [shapeCast_apply _ _ _ (ix2 (rowAt b r) d) (by
    rw [Shape.rowMajor_val_two, Shape.rowMajor_val_three]
    rfl)]
  exact transpose_apply _ _ _ _ _ (fun a => by fin_cases a <;> rfl)

/-- The rows put back: sorting the columns sorts the rows. -/
theorem asRows_columns (x y : FVec Ideal S512x64x512 .f32) : asRows (Net.columns (asCols x) (asCols y)) = Net.bound x y := by
  funext j
  obtain ⟨b, r, d, rfl⟩ : ∃ (b : Fin 512) (r : Fin 64) (d : Fin 512), j = ix3 b r d := ⟨j 0, j 1, j 2, eq_ix3 j⟩
  rw [asRows_apply]
  show asCols y (ix2 (sortedFrom (Net.keyLt fun k : Fin 512 => asCols x (ix2 k (rowAt b r))) d) (rowAt b r)) = _
  rw [asCols_apply]
  simp only [asCols_apply]
  rfl

/-- What the region leaves, read as the lines after it find it. -/
theorem region_v4 (c : Dev nD) :
    Pipeline.withArrays (cfgs 0).spec c (V0 m c) (fun w => (dats m 0 c).arrAt w (cfgs 0).N) (Proc.devRef .tc main_v4)
      = Net.columns (asCols (m ((c : Thread nD τ).loc main_arg0))) (asCols (m ((c : Thread nD τ).loc main_arg1))) := by
  refine ((Pipeline.withArrays_arr (cfgs 0).spec (by decide) c (V0 m c) _ 2).trans (final m c)).trans ?_
  unfold result
  rw [keys_eq, fillers_eq]

/-- The second result: the rows of fillers, sorted. -/
theorem tail_v6 (c : Dev nD) : Pipeline.afterTail₀ cfgs (dats m) 0 (V0 m) [hostOps1] c main_v6
    = Net.bound (m ((c : Thread nD τ).loc main_arg0)) (m ((c : Thread nD τ).loc main_arg1)) := by
  show StableHlo.after hostOps1 _ (Proc.devRef .tc main_v6) = _
  after_results
  rw [region_v4]
  exact asRows_columns _ _

/-- The first result: the same, a batch to a row. -/
theorem tail_v7 (c : Dev nD) : Pipeline.afterTail₀ cfgs (dats m) 0 (V0 m) [hostOps1] c main_v7
    = shapeCast S512x32768 (Net.bound (m ((c : Thread nD τ).loc main_arg0)) (m ((c : Thread nD τ).loc main_arg1)))
        shapeCasts_S512x64x512_S512x32768 := by
  show StableHlo.after hostOps1 _ (Proc.devRef .tc main_v7) = _
  after_results
  rw [region_v4]
  exact congrArg (fun v => shapeCast S512x32768 v shapeCasts_S512x64x512_S512x32768) (asRows_columns _ _)

/-- THE RUN of the kernel's program: both results hold the sorted fillers, the arguments are unchanged. -/
theorem run : θ_run defs (onTc (τ := τ) (main (F := Ideal))) ⟨m, fun _ => 0, ρ⟩ fun r => ∀ c : Dev nD,
      r.2.mem ((c.tc : Thread nD τ).loc main_v7)
        = shapeCast S512x32768 (Net.bound (m ((c.tc : Thread nD τ).loc main_arg0)) (m ((c.tc : Thread nD τ).loc main_arg1)))
            shapeCasts_S512x64x512_S512x32768
      ∧ r.2.mem ((c.tc : Thread nD τ).loc main_v6)
        = Net.bound (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v7 (by decide)).trans (tail_v7 m c),
      ((h.1 c).2 main_v6 (by decide)).trans (tail_v6 m c), (h.2 c).1, (h.2 c).2⟩)
    (θ_run_and (run_main m ρ) (unchanged m ρ))

end Cert.KernelIdeal.Result

end
-- ==== Proof.Rows.lean ====
/- The reference's results as one function of its arguments: the stable argsort of every row of keys, its remainder by 512,
   and the fillers taken along the rows at those positions. -/
module

public import proofs.«01_k».proof.Proof.Columns
public import proofs.«01_k».proof.Proof.Gen.ReferenceIdeal.Run
public import Idealize.ShloMosaic.Lib.ReduceAll
public import Idealize.ShloMosaic.PureOps.Ideal.Laws
public import Idealize.ShloMosaic.Lib.Routing.Words
public import Idealize.ShloMosaic.Lib.SortFacts

@[expose] public section

noncomputable section

namespace Cert.ReferenceIdeal.Rows

open Cert.ReferenceIdeal Cert.ReferenceIdeal.Gen Idealize.ShloMosaic Idealize.ShloMosaic.TcCoe Idealize.SL.Sem
open Idealize.ShloMosaic.ValueIdx
open Cert.Net (Cube place bound keyLt)

/-- The comparator of the reference's argsort asks whether the key is less: no extended real is unequal to itself, and a zero
    stands for itself. -/
theorem comparator_eq (l r : Ideal .f32 × BitVec 32) :
    comparator_f32_i32_d2 (F := Ideal) l r = Ideal.cmp .olt l.1 r.1 := by
  have h0 : (FloatOps.ofBits .f32 0x00000000#32 : Ideal .f32) = (0 : EReal) := Ideal.ofBits_zero_f32
  have hn (x : EReal) : Ideal.cmp .une x x = 0#1 := by simp [Ideal.cmp]
  have hz (x : EReal) : Scalar.select (Ideal.cmp .oeq x 0) (0 : EReal) x = x := by
    unfold Scalar.select Ideal.cmp
    by_cases h : x = 0 <;> simp [h]
  unfold comparator_f32_i32_d2
  rw [h0]
  show Ideal.cmp .olt (Scalar.select (Ideal.cmp .une l.1 l.1) _ (Scalar.select (Ideal.cmp .oeq l.1 0) (0 : EReal) l.1))
    (Scalar.select (Ideal.cmp .une r.1 r.1) _ (Scalar.select (Ideal.cmp .oeq r.1 0) (0 : EReal) r.1)) = _
  rw [hn, hn, hz, hz]
  rfl

/-- A sort of every row of a cube with its positions carried along, by a comparator that asks whether the key is less, carries
    to place `d` the position that sorts the row. -/
theorem sort2_iota_apply {A B n : Nat} (cmp : Ideal .f32 × BitVec 32 → Ideal .f32 × BitVec 32 → BitVec 1)
    (hcmp : ∀ l r, cmp l r = Ideal.cmp .olt l.1 r.1) (x : FVec Ideal ⟨3, ![A, B, n]⟩ .f32) (b : Fin A) (r : Fin B) (d : Fin n) :
    (Host.sort2 ⟨3, ![A, B, n]⟩ 2 cmp x (iotaInDim ⟨3, ![A, B, n]⟩ 32 2)).2 (ix3 b r d)
      = BitVec.ofNat 32 (sortedFrom (keyLt fun k : Fin n => x (ix3 b r k)) d).val := by
  have hal (k : Fin n) : Shape.Idx.along (s := ⟨3, ![A, B, n]⟩) (ix3 b r d) 2 k = ix3 b r k := by
    funext a
    match a with
    | ⟨0, _⟩ => rfl
    | ⟨1, _⟩ => rfl
    | ⟨2, _⟩ => rfl
  have hb : (fun k k' : Fin n => cmp (x (Shape.Idx.along (s := ⟨3, ![A, B, n]⟩) (ix3 b r d) 2 k), BitVec.ofNat 32 k.val)
      (x (Shape.Idx.along (s := ⟨3, ![A, B, n]⟩) (ix3 b r d) 2 k'), BitVec.ofNat 32 k'.val) == 1#1)
      = keyLt fun k : Fin n => x (ix3 b r k) := by
    funext k k'
    rw [hcmp, hal, hal]
    unfold keyLt Ideal.cmp
    show (BitVec.ofBool (decide (x (ix3 b r k) < x (ix3 b r k'))) == 1#1) = decide (x (ix3 b r k) < x (ix3 b r k'))
    cases decide (x (ix3 b r k) < x (ix3 b r k')) <;> rfl
  unfold Host.sort2
  exact congrArg (fun f => BitVec.ofNat 32 (sortedFrom f d).val) hb

/-- The positions that the argsort of every row of `x` gives. -/
def ranked (x : FVec Ideal Cube .f32) : IVec Cube 32 :=
  (Host.sort2 S512x64x512 2 comparator_f32_i32_d2 x (iotaInDim S512x64x512 32 2)).2

theorem ranked_apply (x : FVec Ideal Cube .f32) (b : Fin 512) (r : Fin 64) (d : Fin 512) :
    ranked x (ix3 b r d) = BitVec.ofNat 32 (place x b r d).val :=
  sort2_iota_apply _ comparator_eq x b r d

/-- The divisor of the reference's remainder: 512, or 1 were it 0. -/
def divisor : IVec S_ 32 :=
  select (cmpi .eq (id (constantI S_ 32 512#32)) (constantI S_ 32 0#32)) (constantI S_ 32 1#32) (id (constantI S_ 32 512#32))

/-- The machine's remainder, with the sign of the dividend. -/
def rest (p : IVec Cube 32) : IVec Cube 32 :=
  Host.remsi p (broadcastInDim S512x64x512 ![] bcast_S_S512x64x512 divisor)

/-- The reference's remainder, with the sign of the divisor. -/
def wrapped (p : IVec Cube 32) : IVec Cube 32 :=
  select (andi (cmpi .ne (cmpi .slt (rest p) (broadcastInDim S512x64x512 ![] bcast_S_S512x64x512 (constantI S_ 32 0#32)))
      (broadcastInDim S512x64x512 ![] bcast_S_S512x64x512 (cmpi .slt divisor (constantI S_ 32 0#32))))
      (cmpi .ne (rest p) (broadcastInDim S512x64x512 ![] bcast_S_S512x64x512 (constantI S_ 32 0#32))))
    (addi (rest p) (broadcastInDim S512x64x512 ![] bcast_S_S512x64x512 divisor)) (rest p)

/-- Positions counted from the end where they are negative, as start indices of the gather. -/
def starts (p : IVec Cube 32) : IVec S512x64x512x1 32 :=
  shapeCast S512x64x512x1 (select (cmpi .slt p (broadcastInDim S512x64x512 ![] bcast_S_S512x64x512 (constantI S_ 32 0#32)))
    (addi p (broadcastInDim S512x64x512 ![] bcast_S_S512x64x512 (constantI S_ 32 512#32))) p) shapeCasts_S512x64x512_S512x64x512x1

/-- Whether a start index is a position of the row. -/
def inRow (q : IVec S512x64x512x1 32) : IVec S512x64x512x1 1 :=
  andi (cmpi .sge q (broadcastInDim S512x64x512x1 ![] bcast_S_S512x64x512x1 (constantI S_ 32 0#32)))
    (cmpi .sle q (broadcastInDim S512x64x512x1 ![0, 1, 2, 3] bcast_S1x1x1x1_S512x64x512x1_0_1_2_3
      (broadcastInDim S1x1x1x1 ![3] bcast_S1_S1x1x1x1_3 (constantI S1 32 511#32))))

/-- The elements of `y` at the start indices, and no number where an index is outside its row. -/
def taken (y : FVec Ideal Cube .f32) (q : IVec S512x64x512x1 32) : FVec Ideal Cube .f32 :=
  select (Host.reduce IntOp.andi (inRow q) (constantI S_ 1 1#1) reducesTo_S512x64x512x1_S512x64x512_d3 h_S_)
    (Host.gather gather_S512x64x512_S512x64x512x1_S512x64x512_n_2_01_01_2_3_111 y q)
    (broadcastInDim S512x64x512 ![] bcast_S_S512x64x512 (constant S_ .f32 0x7FC00000#32))

/-- A position below 512, read as a signed word, is itself. -/
theorem toInt_position (a : Nat) (ha : a < 512) : (BitVec.ofNat 32 a).toInt = a := by
  have h : (BitVec.ofNat 32 a).toNat = a := by rw [BitVec.toNat_ofNat]; omega
  rw [BitVec.toInt_eq_toNat_of_lt (by omega), h]

theorem not_negative (a : Nat) (ha : a < 512) : IntOp.cmpi .slt (BitVec.ofNat 32 a) 0#32 = 0#1 := by
  show BitVec.ofBool ((BitVec.ofNat 32 a).slt 0#32) = 0#1
  rw [BitVec.slt_eq_decide, toInt_position a ha, decide_eq_false (by show ¬ ((a : Int) < 0); omega)]
  rfl

/-- A position below 512 is its own remainder by 512, and not negative. -/
theorem wrapped_apply (p : IVec Cube 32) (j : Cube.Idx) (a : Nat) (ha : a < 512) (h : p j = BitVec.ofNat 32 a) :
    wrapped p j = BitVec.ofNat 32 a := by
  have hr : rest p j = BitVec.ofNat 32 a := by
    show IntOp.remsi .host (p j) 512#32 = _
    rw [h]
    refine (Routing.remsi_word .host (a := a) (b := 512) (by omega) (by omega) (by omega)).trans ?_
    rw [Nat.mod_eq_of_lt ha]
  show Scalar.select (IntOp.andi (IntOp.cmpi .ne (IntOp.cmpi .slt (rest p j) 0#32) (IntOp.cmpi .slt 512#32 0#32))
    (IntOp.cmpi .ne (rest p j) 0#32)) (rest p j + 512#32) (rest p j) = _
  rw [hr]
  rw [not_negative a ha]
  have hc : IntOp.cmpi .ne 0#1 (IntOp.cmpi .slt 512#32 0#32) = 0#1 := by decide
  rw [hc]
  have hd : ∀ b : BitVec 1, IntOp.andi 0#1 b = 0#1 := by decide
  rw [hd]
  rfl

/-- The start index of the element at `(b, r, d)` is the position there. -/
theorem starts_apply (p : IVec Cube 32) (b : Fin 512) (r : Fin 64) (d : Fin 512) (a : Nat) (ha : a < 512)
    (h : p (ix3 b r d) = BitVec.ofNat 32 a) : starts p (ix4 b r d (0 : Fin 1)) = BitVec.ofNat 32 a := by
  unfold starts
  rw [shapeCast_apply _ _ (ix4 b r d (0 : Fin 1)) (ix3 b r d) (by
    rw [Shape.rowMajor_val_three, Shape.rowMajor_val_four]
    show (b.val * 64 + r.val) * 512 + d.val = ((b.val * 64 + r.val) * 512 + d.val) * 1 + 0
    rw [Nat.mul_one, Nat.add_zero])]
  show Scalar.select (IntOp.cmpi .slt (p (ix3 b r d)) 0#32) (p (ix3 b r d) + 512#32) (p (ix3 b r d)) = _
  rw [h, not_negative a ha]
  rfl

/-- A start index that is a position of the row is in the row. -/
theorem inRow_apply (q : IVec S512x64x512x1 32) (i : S512x64x512x1.Idx) (a : Nat) (ha : a < 512) (h : q i = BitVec.ofNat 32 a) :
    inRow q i = 1#1 := by
  show IntOp.andi (BitVec.ofBool ((0#32).sle (q i))) (BitVec.ofBool ((q i).sle 511#32)) = 1#1
  rw [h, BitVec.sle_eq_decide, BitVec.sle_eq_decide, toInt_position a ha, decide_eq_true (by show (0 : Int) ≤ a; omega),
    decide_eq_true (by show (a : Int) ≤ 511; omega)]
  rfl

/-- The gather along the rows, read at `(b, r, d)`: the operand's row `(b, r)` at the start index there. -/
theorem gather_apply {A B N w : Nat} (D : GatherDims ⟨3, ![A, B, N]⟩ ⟨4, ![A, B, N, 1]⟩ ⟨3, ![A, B, N]⟩)
    (h0 : D.offsetDims = []) (h1 : D.collapsedSliceDims = [2]) (h2 : D.operandBatchingDims = [0, 1])
    (h3 : D.startIndicesBatchingDims = [0, 1]) (h4 : D.startIndexMap = [2]) (h5 : D.indexVectorDim = 3)
    (h6 : D.sliceSizes = ![1, 1, 1])
    (y : (⟨3, ![A, B, N]⟩ : Shape).Idx → Ideal .f32) (q : IVec ⟨4, ![A, B, N, 1]⟩ w) (b : Fin A) (r : Fin B) (d : Fin N) (k : Fin N)
    (hk : (q (ix4 b r d (0 : Fin 1))).toInt.toNat = k.val) :
    Host.gather D y q (ix3 b r d) = y (ix3 b r k) := by
  have m0 : (0 : Fin 3) ∈ ([0, 1] : List (Fin 3)) := by decide
  have m1 : (1 : Fin 3) ∈ ([0, 1] : List (Fin 3)) := by decide
  have m2 : (2 : Fin 3) ∈ ([2] : List (Fin 3)) := by decide
  have n2 : (2 : Fin 3) ∉ ([0, 1] : List (Fin 3)) := by decide
  obtain ⟨o, c, ob, sb, sm, iv, ss, wf⟩ := D
  subst h0 h1 h2 h3 h4 h5 h6
  unfold Host.gather
  congr 1
  funext a
  refine Fin.ext ?_
  set D : GatherDims ⟨3, ![A, B, N]⟩ ⟨4, ![A, B, N, 1]⟩ ⟨3, ![A, B, N]⟩ := ⟨[], [2], [0, 1], [0, 1], [2], 3, ![1, 1, 1], wf⟩
  show D.start (ix3 b r d) q a + D.batchCoord (ix3 b r d) a + D.offCoord (ix3 b r d) a = _
  have hoff : D.offCoord (ix3 b r d) a = 0 := by
    refine GatherDims.offCoord_eq_zero _ _ _ fun h => ?_
    have h' := (GatherDims.mem_sKept _ _).mp h
    match a, h' with
    | ⟨0, _⟩, h' => exact h'.2 m0
    | ⟨1, _⟩, h' => exact h'.2 m1
    | ⟨2, _⟩, h' => exact h'.1 m2
  rw [hoff, Nat.add_zero]
  match a with
  | ⟨0, _⟩ =>
    rw [GatherDims.start_batching _ _ _ _ m0, Nat.zero_add]
    unfold GatherDims.batchCoord
    exact (dif_pos m0).trans rfl
  | ⟨1, _⟩ =>
    rw [GatherDims.start_batching _ _ _ _ m1, Nat.zero_add]
    unfold GatherDims.batchCoord
    exact (dif_pos m1).trans rfl
  | ⟨2, _⟩ =>
    rw [GatherDims.batchCoord_eq_zero _ _ _ n2, Nat.add_zero]
    unfold GatherDims.start
    refine (dif_pos m2).trans ?_
    have hsi (z : Fin D.startIndexMap.length) : D.siIdx (ix3 b r d) z = ix4 b r d (0 : Fin 1) := by
      funext e; refine Fin.ext ?_
      match e with
      | ⟨0, _⟩ => rfl
      | ⟨1, _⟩ => rfl
      | ⟨2, _⟩ => rfl
      | ⟨3, _⟩ => exact Nat.lt_one_iff.mp (Fin.isLt (D.siIdx (ix3 b r d) z ⟨3, _⟩))
    rw [hsi, hk]
    show min k.val (N - 1) = k.val
    have := k.isLt
    omega

/-- The elements taken at positions of the rows. -/
theorem taken_apply (y : FVec Ideal Cube .f32) (q : IVec S512x64x512x1 32) (π : Fin 512 → Fin 64 → Fin 512 → Fin 512)
    (h : ∀ b r d, q (ix4 b r d (0 : Fin 1)) = BitVec.ofNat 32 (π b r d).val) (b : Fin 512) (r : Fin 64) (d : Fin 512) :
    taken y q (ix3 b r d) = y (ix3 b r (π b r d)) := by
  have hin : ∀ i, inRow q i = 1#1 := by
    intro i
    have hi : i = ix4 (i 0) (i 1) (i 2) (0 : Fin 1) := by
      funext e
      match e with
      | ⟨0, _⟩ => rfl
      | ⟨1, _⟩ => rfl
      | ⟨2, _⟩ => rfl
      | ⟨3, _⟩ => exact Subsingleton.elim (α := Fin 1) _ _
    exact inRow_apply q i _ (π (i 0) (i 1) (i 2)).isLt ((congrArg q hi).trans (h (i 0) (i 1) (i 2)))
  have hall := Host.reduce_andi_one (inRow q) (constantI S_ 1 1#1) reducesTo_S512x64x512x1_S512x64x512_d3 h_S_ (ix3 b r d) rfl hin
  have hsel (c : IVec Cube 1) (u v : FVec Ideal Cube .f32) (j : Cube.Idx) (hc : c j = 1#1) : select c u v j = u j := by
    show Scalar.select (c j) (u j) (v j) = u j
    rw [hc]
    rfl
  refine (hsel _ _ _ _ hall).trans ?_
  refine (gather_apply gather_S512x64x512_S512x64x512x1_S512x64x512_n_2_01_01_2_3_111 rfl rfl rfl rfl rfl rfl rfl y q b r d (π b r d) ?_)
  rw [h, toInt_position _ (π b r d).isLt]
  rfl

/-- THE REFERENCE'S ROWS: the fillers in the order that sorts the keys. -/
theorem rows_eq (x y : FVec Ideal Cube .f32) : taken y (starts (wrapped (ranked x))) = bound x y := by
  funext j
  obtain ⟨b, r, d, rfl⟩ : ∃ (b : Fin 512) (r : Fin 64) (d : Fin 512), j = ix3 b r d := ⟨j 0, j 1, j 2, eq_ix3 j⟩
  exact taken_apply y _ (place x) (fun b r d => starts_apply _ b r d _ (place x b r d).isLt
    (wrapped_apply _ _ _ (place x b r d).isLt (ranked_apply x b r d))) b r d

variable (m : (ℓ : Loc nD τ sig) → Buf (Elt Ideal) ℓ) (ρ : Dev nD → PrngReg)

theorem out1_eq (c : Dev nD) : Value.res_out1 m c
    = bound (m ((c.tc : Thread nD τ).loc main_arg0)) (m ((c.tc : Thread nD τ).loc main_arg1)) :=
  Eq.trans (by unfold Value.res_out1 Value.res_main_v2; rfl) (rows_eq (m ((c.tc : Thread nD τ).loc main_arg0)) (m ((c.tc : Thread nD τ).loc main_arg1)))

theorem out0_eq (c : Dev nD) : Value.res_out0 m c
    = shapeCast S512x32768 (bound (m ((c.tc : Thread nD τ).loc main_arg0)) (m ((c.tc : Thread nD τ).loc main_arg1)))
        shapeCasts_S512x64x512_S512x32768 :=
  Eq.trans (by unfold Value.res_out0 Value.res_main_v3; rfl)
    (congrArg (fun v => shapeCast S512x32768 v shapeCasts_S512x64x512_S512x32768)
      (rows_eq (m ((c.tc : Thread nD τ).loc main_arg0)) (m ((c.tc : Thread nD τ).loc main_arg1))))

end Cert.ReferenceIdeal.Rows

end
-- ==== Proof.Found2.lean ====
/- What the body of the call for the penalties stores, with what it reads. -/
module

public import proofs.«01_k».proof.Proof.Gen.Kernel2Ideal.Frame
public import Idealize.ShloMosaic.Lib.Tactic

@[expose] public section

noncomputable section

namespace Cert.Kernel2Ideal.Gen

open Idealize.ShloMosaic Idealize.ShloMosaic.TcCoe Idealize.ShloMosaic.Tactic

variable {F : FTy → Type} [FloatOps F]

/-- The one piece the body stores: the loss and the penalties of the two loads in their places, and two further scalars (the
    ranks) in theirs. -/
theorem stored_eq (c : Dev nD) (arg0 : Memref sig .tc .vmem S64x512 .f32) (harg0 : arg0.IsWhole)
    (arg1 : Memref sig .tc .vmem S4096x512 .f32) (harg1 : arg1.IsWhole) (arg2 : Memref sig .tc .vmem S8x128 .f32)
    (harg2 : arg2.IsWhole) (x0 : Vec F S64x512 .f32) (x1 : Vec F S4096x512 .f32) :
    ∃ a b : F .f32, (kernelRun0_A c arg0 harg0 arg1 harg1 arg2 harg2 x0 x1).1
      = [⟨Rect.unit ![0, 0] ![8, 128] inb_S8x128_S8x128_0_0,
          k0_pay1 a b (iota .tc S8x128 32 [1] iota_S8x128_d1_w32) k0_pay34
            (k0_pay35
              (k0_pay3 (View.readAt (Elt F) arg0.view (Rect.unit ![0, 0] S64x512.size inb_S64x512_S64x512_0_0).toLoadRect (harg0.unread x0)))
              (k0_pay6 (View.readAt (Elt F) arg1.view (Rect.unit ![0, 0] S4096x512.size inb_S4096x512_S4096x512_0_0).toLoadRect (harg1.unread x1))))
            k0_pay36⟩] := by
  unfold kernelRun0_A
  exact ⟨_, _, rfl⟩

end Cert.Kernel2Ideal.Gen

end
-- ==== Proof.Gram.lean ====
/- The distance of the rows of a matrix from orthonormal ones, squared, and the same from the products of the columns. -/
module

public import Mathlib.Data.EReal.Operations
public import Mathlib.Algebra.BigOperators.Ring.Finset
public import Mathlib.Algebra.Order.BigOperators.Group.Finset
public import Mathlib.Tactic.Ring
public import Mathlib.Tactic.Positivity

@[expose] public section

noncomputable section

namespace Cert.Pen

variable {n d : Nat}

/-- `‖I − X Xᵀ‖²`, over the extended reals. -/
def defect (X : Fin n → Fin d → EReal) : EReal :=
  ∑ i, ∑ j, ((if i = j then (1 : EReal) else 0) - ∑ k, X i k * X j k) * ((if i = j then (1 : EReal) else 0) - ∑ k, X i k * X j k)

/-- `n − 2 ‖X‖² + ‖Xᵀ X‖²`, not below zero, over the extended reals. -/
def expanded (X : Fin n → Fin d → EReal) : EReal :=
  max (((n : ℝ) : EReal) - ((2 : ℝ) : EReal) * (∑ i, ∑ k, X i k * X i k)
    + ∑ k, ∑ l, (∑ i, X i k * X i l) * (∑ i, X i k * X i l)) 0

/-- `‖X Xᵀ‖² = ‖Xᵀ X‖²`. -/
theorem norm_swap (X : Fin n → Fin d → ℝ) :
    ∑ i, ∑ j, (∑ k, X i k * X j k) * (∑ k, X i k * X j k) = ∑ k, ∑ l, (∑ i, X i k * X i l) * (∑ i, X i k * X i l) := by
  have h1 : ∀ i j, (∑ k, X i k * X j k) * (∑ k, X i k * X j k) = ∑ k, ∑ l, X i k * X j k * (X i l * X j l) :=
    fun i j => Finset.sum_mul_sum _ _ _ _
  have h2 : ∀ k l, (∑ i, X i k * X i l) * (∑ i, X i k * X i l) = ∑ i, ∑ j, X i k * X j k * (X i l * X j l) := fun k l =>
    (Finset.sum_mul_sum _ _ _ _).trans (Finset.sum_congr rfl fun i _ => Finset.sum_congr rfl fun j _ => by ring)
  simp only [h1, h2]
  calc ∑ i, ∑ j, ∑ k, ∑ l, X i k * X j k * (X i l * X j l)
      = ∑ i, ∑ k, ∑ j, ∑ l, X i k * X j k * (X i l * X j l) := Finset.sum_congr rfl fun i _ => Finset.sum_comm
    _ = ∑ k, ∑ i, ∑ j, ∑ l, X i k * X j k * (X i l * X j l) := Finset.sum_comm
    _ = ∑ k, ∑ i, ∑ l, ∑ j, X i k * X j k * (X i l * X j l) :=
        Finset.sum_congr rfl fun k _ => Finset.sum_congr rfl fun i _ => Finset.sum_comm
    _ = ∑ k, ∑ l, ∑ i, ∑ j, X i k * X j k * (X i l * X j l) := Finset.sum_congr rfl fun k _ => Finset.sum_comm

/-- The square multiplied out, of any products. -/
theorem square_out (G : Fin n → Fin n → ℝ) :
    ∑ i, ∑ j, ((if i = j then (1 : ℝ) else 0) - G i j) * ((if i = j then (1 : ℝ) else 0) - G i j)
      = (n : ℝ) - 2 * (∑ i, G i i) + ∑ i, ∑ j, G i j * G i j := by
  have h : ∀ i j, ((if i = j then (1 : ℝ) else 0) - G i j) * ((if i = j then (1 : ℝ) else 0) - G i j)
      = (if i = j then 1 - 2 * G i j else 0) + G i j * G i j := by
    intro i j
    split <;> ring
  simp only [h, Finset.sum_add_distrib, Finset.sum_ite_eq, Finset.mem_univ, if_true, Finset.sum_sub_distrib, ← Finset.mul_sum]
  simp

/-- The square multiplied out, over the reals. -/
theorem real_eq (X : Fin n → Fin d → ℝ) :
    ∑ i, ∑ j, ((if i = j then (1 : ℝ) else 0) - ∑ k, X i k * X j k) * ((if i = j then (1 : ℝ) else 0) - ∑ k, X i k * X j k)
      = (n : ℝ) - 2 * (∑ i, ∑ k, X i k * X i k) + ∑ k, ∑ l, (∑ i, X i k * X i l) * (∑ i, X i k * X i l) :=
  (square_out fun i j => ∑ k, X i k * X j k).trans (congrArg _ (norm_swap X))

theorem coe_sum {m : Nat} (f : Fin m → ℝ) : ((∑ i, f i : ℝ) : EReal) = ∑ i, (f i : EReal) :=
  map_sum (⟨⟨fun x : ℝ => (x : EReal), rfl⟩, EReal.coe_add⟩ : ℝ →+ EReal) f Finset.univ

theorem coe_delta (i j : Fin n) : (if i = j then (1 : EReal) else 0) = ((if i = j then (1 : ℝ) else 0 : ℝ) : EReal) := by
  split <;> rfl

/-- Of real entries, the two agree: the sum of squares is not negative. -/
theorem defect_eq_expanded (X : Fin n → Fin d → ℝ) : defect (fun i k => (X i k : EReal)) = expanded (fun i k => (X i k : EReal)) := by
  unfold defect expanded
  simp only [coe_delta, ← EReal.coe_mul, ← coe_sum, ← EReal.coe_sub, ← EReal.coe_add, ← real_eq]
  refine (max_eq_left ?_).symm
  exact EReal.coe_nonneg.2 (Finset.sum_nonneg fun i _ => Finset.sum_nonneg fun j _ => mul_self_nonneg _)

/-- Entries below infinity in absolute value are real. -/
theorem defect_eq_expanded_of_finite (X : Fin n → Fin d → EReal) (h : ∀ i k, X i k ≠ ⊤ ∧ X i k ≠ ⊥) : defect X = expanded X := by
  have e : X = fun i k => ((X i k).toReal : EReal) := funext fun i => funext fun k => (EReal.coe_toReal (h i k).1 (h i k).2).symm
  rw [e]
  exact defect_eq_expanded _

end Cert.Pen

end
-- ==== Proof.Penalties.lean ====
/- The penalties the kernel computes and those of the reference, as sums over the entries of the matrices. -/
module

public import proofs.«01_k».proof.Proof.Gen.Kernel2Ideal.Frame
public import proofs.«01_k».proof.Proof.Gen.Reference2Ideal.Run
public import proofs.«01_k».proof.Proof.Gram
public import Idealize.ShloMosaic.Lib.Pointwise
public import Idealize.ShloMosaic.PureOps.Ideal.Laws

@[expose] public section

noncomputable section

namespace Cert.Pen

open Idealize.ShloMosaic

/-- A matrix by its rows and columns. -/
abbrev entries {n d : Nat} (x : FVec Ideal ⟨2, ![n, d]⟩ .f32) : Fin n → Fin d → EReal := fun i k => x (ix2 i k)

theorem two_bits : Ideal.ofBits .f32 0x40000000#32 = ((2 : ℝ) : EReal) := by
  simp [Ideal.ofBits, Ideal.ieee]
  rw [← EReal.coe_mul]
  norm_num

theorem rows_bits : Ideal.ofBits .f32 0x45800000#32 = (((4096 : Nat) : ℝ) : EReal) := by
  simp [Ideal.ofBits, Ideal.ieee]
  rw [← EReal.coe_mul]
  norm_num

theorem ofNat_inj {n : Nat} (hn : n ≤ 4096) (i j : Fin n) : BitVec.ofNat 32 i.val = BitVec.ofNat 32 j.val ↔ i = j := by
  rw [← BitVec.toNat_inj, BitVec.toNat_ofNat, BitVec.toNat_ofNat, Fin.ext_iff]
  omega

theorem cmp_ne {n : Nat} (hn : n ≤ 4096) {i j : Fin n} (h : i ≠ j) : (BitVec.ofNat 32 i.val == BitVec.ofNat 32 j.val) = false :=
  beq_false_of_ne fun e => h ((ofNat_inj hn i j).1 e)

/-- The kernel's identity matrix at an index. -/
theorem delta_kernel {n : Nat} (hn : n ≤ 4096) (i j : Fin n) :
    (FloatOps.sitofp FTy.f32 (BitVec.setWidth 32 (IntOp.cmpi .eq (BitVec.ofNat 32 i.val) (BitVec.ofNat 32 j.val))) : Ideal .f32)
      = (if i = j then (1 : EReal) else 0) := by
  by_cases h : i = j
  · subst h
    rw [if_pos rfl]
    have : BitVec.setWidth 32 (IntOp.cmpi .eq (BitVec.ofNat 32 i.val) (BitVec.ofNat 32 i.val)) = 1#32 := by simp [IntOp.cmpi]
    rw [this]
    show (((1#32).toInt : ℝ) : EReal) = 1
    simp
  · rw [if_neg h]
    have : BitVec.setWidth 32 (IntOp.cmpi .eq (BitVec.ofNat 32 i.val) (BitVec.ofNat 32 j.val)) = 0#32 := by
      simp only [IntOp.cmpi, cmp_ne hn h]; rfl
    rw [this]
    show (((0#32).toInt : ℝ) : EReal) = 0
    simp

/-- The reference's identity matrix at an index. -/
theorem delta_reference {n : Nat} (hn : n ≤ 4096) (i j : Fin n) :
    (FloatOps.uitofp FTy.f32 (IntOp.cmpi .eq (IntOp.addi (BitVec.ofNat 32 i.val) 0#32) (BitVec.ofNat 32 j.val)) : Ideal .f32)
      = (if i = j then (1 : EReal) else 0) := by
  have e : IntOp.addi (BitVec.ofNat 32 i.val) 0#32 = BitVec.ofNat 32 i.val := BitVec.add_zero _
  rw [e]
  by_cases h : i = j
  · subst h
    rw [if_pos rfl]
    have : IntOp.cmpi .eq (BitVec.ofNat 32 i.val) (BitVec.ofNat 32 i.val) = 1#1 := by simp [IntOp.cmpi]
    rw [this]
    show (((1#1).toNat : ℝ) : EReal) = 1
    simp
  · rw [if_neg h]
    have : IntOp.cmpi .eq (BitVec.ofNat 32 i.val) (BitVec.ofNat 32 j.val) = 0#1 := by
      simp only [IntOp.cmpi, cmp_ne hn h]; rfl
    rw [this]
    show (((0#1).toNat : ℝ) : EReal) = 0
    simp

/-- The weight of both penalties in the loss. -/
abbrev weight : EReal := Ideal.ofBits .f32 0x3C23D70A#32

end Cert.Pen

namespace Cert.Kernel2Ideal.Gen

open Idealize.ShloMosaic Idealize.ShloMosaic.TcCoe Cert.Pen

/-- The products of the roles' rows. -/
theorem products_role (x : Vec Ideal S64x512 .f32) (i j : Fin 64) :
    k0_pay2 (F := Ideal) x (ix2 i j) = ∑ k : Fin 512, x (ix2 i k) * x (ix2 j k) := by
  unfold k0_pay2
  pointwise

/-- The products of the fillers' columns. -/
theorem products_filler (x : Vec Ideal S4096x512 .f32) (k l : Fin 512) :
    k0_pay4 (F := Ideal) x (ix2 k l) = ∑ i : Fin 4096, x (ix2 i k) * x (ix2 i l) := by
  unfold k0_pay4
  pointwise

/-- The kernel's penalty of the roles. -/
theorem penalty_role (x : Vec Ideal S64x512 .f32) : k0_pay3 (F := Ideal) x = Ideal.sqrt (defect (entries (n := 64) (d := 512) x)) := by
  unfold k0_pay3
  pointwise
  refine congrArg Ideal.sqrt ?_
  unfold defect
  refine Finset.sum_congr rfl fun i _ => Finset.sum_congr rfl fun j _ => ?_
  rw [delta_kernel (by decide), products_role]

/-- The kernel's penalty of the fillers. -/
theorem penalty_filler (x : Vec Ideal S4096x512 .f32) :
    k0_pay6 (F := Ideal) x = Ideal.sqrt (expanded (entries (n := 4096) (d := 512) x)) := by
  unfold k0_pay6 k0_pay5
  pointwise
  refine congrArg Ideal.sqrt ?_
  unfold expanded
  rw [two_bits, rows_bits]
  simp only [products_filler]

end Cert.Kernel2Ideal.Gen

namespace Cert.Reference2Ideal.Gen

open Idealize.ShloMosaic Idealize.ShloMosaic.TcCoe Cert.Pen

/-- The reference's penalty of the roles. -/
abbrev roleTerm (x : FVec Ideal S64x512 .f32) : FVec Ideal S_ .f32 :=
  Host.sqrt (Host.reduceAdd (mulf (subf (uitofp .f32 (cmpi .eq (addi (iotaInDim S64x64 32 0) (broadcastInDim S64x64 ![] bcast_S_S64x64 (constantI S_ 32 0#32))) (iotaInDim S64x64 32 1))) (Host.dotGeneral dot_S64x512_S512x64_S64x64_1_0_0_1_n_n none (transpose S64x512 [1, 0] (transpose S512x64 [1, 0] x transposes_S64x512_S512x64_1_0) transposes_S512x64_S64x512_1_0) (transpose S512x64 [1, 0] x transposes_S64x512_S512x64_1_0))) (subf (uitofp .f32 (cmpi .eq (addi (iotaInDim S64x64 32 0) (broadcastInDim S64x64 ![] bcast_S_S64x64 (constantI S_ 32 0#32))) (iotaInDim S64x64 32 1))) (Host.dotGeneral dot_S64x512_S512x64_S64x64_1_0_0_1_n_n none (transpose S64x512 [1, 0] (transpose S512x64 [1, 0] x transposes_S64x512_S512x64_1_0) transposes_S512x64_S64x512_1_0) (transpose S512x64 [1, 0] x transposes_S64x512_S512x64_1_0)))) (constant S_ .f32 0x00000000#32) reducesTo_S64x64_S_d0_1 h_S_)

/-- The reference's penalty of the fillers. -/
abbrev fillerTerm (x : FVec Ideal S4096x512 .f32) : FVec Ideal S_ .f32 :=
  Host.sqrt (Host.reduceAdd (mulf (subf (uitofp .f32 (cmpi .eq (addi (iotaInDim S4096x4096 32 0) (broadcastInDim S4096x4096 ![] bcast_S_S4096x4096 (constantI S_ 32 0#32))) (iotaInDim S4096x4096 32 1))) (Host.dotGeneral dot_S4096x512_S512x4096_S4096x4096_1_0_0_1_n_n none (transpose S4096x512 [1, 0] (transpose S512x4096 [1, 0] x transposes_S4096x512_S512x4096_1_0) transposes_S512x4096_S4096x512_1_0) (transpose S512x4096 [1, 0] x transposes_S4096x512_S512x4096_1_0))) (subf (uitofp .f32 (cmpi .eq (addi (iotaInDim S4096x4096 32 0) (broadcastInDim S4096x4096 ![] bcast_S_S4096x4096 (constantI S_ 32 0#32))) (iotaInDim S4096x4096 32 1))) (Host.dotGeneral dot_S4096x512_S512x4096_S4096x4096_1_0_0_1_n_n none (transpose S4096x512 [1, 0] (transpose S512x4096 [1, 0] x transposes_S4096x512_S512x4096_1_0) transposes_S512x4096_S4096x512_1_0) (transpose S512x4096 [1, 0] x transposes_S4096x512_S512x4096_1_0)))) (constant S_ .f32 0x00000000#32) reducesTo_S4096x4096_S_d0_1 h_S_)

/-- The reference's loss from the two penalties. -/
abbrev lossTerm (a b : FVec Ideal S_ .f32) : FVec Ideal S_ .f32 :=
  Host.reduceAdd (mulf (constant S2 .f32 0x3C23D70A#32) (concatenate S2 0 [⟨S1, (broadcastInDim S1 ![] bcast_S_S1 a)⟩, ⟨S1, (broadcastInDim S1 ![] bcast_S_S1 b)⟩] concatenates_S1_S1_S2_d0)) (constant S_ .f32 0x00000000#32) reducesTo_S2_S_d0 h_S_

theorem roleTerm_apply (x : FVec Ideal S64x512 .f32) (j : S_.Idx) :
    roleTerm x j = Ideal.sqrt (defect (entries (n := 64) (d := 512) x)) := by
  unfold roleTerm
  pointwise
  refine congrArg Ideal.sqrt ?_
  unfold defect
  refine Finset.sum_congr rfl fun i _ => Finset.sum_congr rfl fun j _ => ?_
  rw [delta_reference (by decide)]

theorem fillerTerm_apply (x : FVec Ideal S4096x512 .f32) (j : S_.Idx) :
    fillerTerm x j = Ideal.sqrt (defect (entries (n := 4096) (d := 512) x)) := by
  unfold fillerTerm
  pointwise
  refine congrArg Ideal.sqrt ?_
  unfold defect
  refine Finset.sum_congr rfl fun i _ => Finset.sum_congr rfl fun j _ => ?_
  rw [delta_reference (by decide)]

theorem lossTerm_apply (a b : FVec Ideal S_ .f32) (j : S_.Idx) : lossTerm a b j = weight * a ix0 + weight * b ix0 := by
  unfold lossTerm
  pointwise
  simp

end Cert.Reference2Ideal.Gen

end
-- ==== Proof.Stats.lean ====
/- The results of the call for the penalties as functions of its arguments: what the one grid point writes back, and the elements the
   lines after it take out. -/
module

public import proofs.«01_k».proof.Proof.Found2
public import proofs.«01_k».proof.Proof.Penalties
public import Idealize.ShloMosaic.Lib.Pipeline.Value
public import Idealize.ShloMosaic.Lib.StableHlo.Run
public import Idealize.ShloMosaic.Lib.Tactic

@[expose] public section

noncomputable section

namespace Cert.Kernel2Ideal.Stats

open Cert.Kernel2Ideal Cert.Kernel2Ideal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section Any
variable {F : FTy → Type} [FloatOps F]

/-- The block the body stores, from the penalties and the ranks. -/
def stats (a b p q : F .f32) : FVec F S8x128 .f32 :=
  k0_pay1 a b (iota .tc S8x128 32 [1] iota_S8x128_d1_w32) k0_pay34 (k0_pay35 p q) k0_pay36

/-- What the body leaves in the output's staging buffer. -/
theorem out_eq (c : Dev nD) (arg0 : Memref sig .tc .vmem S64x512 .f32) (harg0 : arg0.IsWhole)
    (arg1 : Memref sig .tc .vmem S4096x512 .f32) (harg1 : arg1.IsWhole) (arg2 : Memref sig .tc .vmem S8x128 .f32)
    (harg2 : arg2.IsWhole) (x0 : Vec F S64x512 .f32) (x1 : Vec F S4096x512 .f32) :
    ∃ a b : F .f32, out0_A_2 c arg0 harg0 arg1 harg1 arg2 harg2 x0 x1 = stats a b (k0_pay3 x0) (k0_pay6 x1) := by
  obtain ⟨a, b, e⟩ := stored_eq c arg0 harg0 arg1 harg1 arg2 harg2 x0 x1
  refine ⟨a, b, ?_⟩
  unfold out0_A_2
  rw [View.read_writes_eq_canon _ _ _ (cover0_A_2 c arg0 harg0 arg1 harg1 arg2 harg2 x0 x1), e,
    View.canon_unit_zero (S := S8x128) hz]
  simp only [View.readAt_eq_ld, harg0.read_unread, harg1.read_unread, View.ld_unit_zero (S := S64x512) hz,
    View.ld_unit_zero (S := S4096x512) hz]
  rfl

end Any

/-- The loss is the first element. -/
theorem stats_loss (a b p q : Ideal .f32) : stats a b p q (ix2 0 0) = Cert.Pen.weight * p + Cert.Pen.weight * q := by
  unfold stats k0_pay1 k0_pay35 k0_pay34 k0_pay36
  pointwise
  simp [Scalar.select, IntOp.andi, IntOp.cmpi]

/-- The penalty of the roles is the second. -/
theorem stats_role (a b p q : Ideal .f32) : stats a b p q (ix2 0 1) = p := by
  unfold stats k0_pay1 k0_pay35 k0_pay34 k0_pay36
  pointwise
  simp [Scalar.select, IntOp.andi, IntOp.cmpi]

/-- The penalty of the fillers is the third. -/
theorem stats_filler (a b p q : Ideal .f32) : stats a b p q (ix2 0 2) = q := by
  unfold stats k0_pay1 k0_pay35 k0_pay34 k0_pay36
  pointwise
  simp [Scalar.select, IntOp.andi, IntOp.cmpi]

variable (m : (ℓ : Loc nD τ sig) → Buf (Elt Ideal) ℓ) (ρ : Dev nD → PrngReg)

/-- The block of roles is the whole of them. -/
theorem roles_eq (c : Dev nD) (t : Fin cfg0.N) : iblk m c 0 t = m ((c : Thread nD τ).loc main_arg0) := by
  unfold iblk
  funext j
  refine congrArg (m ((c : Thread nD τ).loc main_arg0)) (funext fun a => Fin.ext ?_)
  match a with
  | ⟨0, _⟩ => show 0 * 64 + 1 * (j 0).val = (j 0).val; omega
  | ⟨1, _⟩ => show 0 * 512 + 1 * (j 1).val = (j 1).val; omega

/-- The block of fillers is the whole of them. -/
theorem fillers_eq (c : Dev nD) (t : Fin cfg0.N) : iblk m c 1 t = m ((c : Thread nD τ).loc main_arg1) := by
  unfold iblk
  funext j
  refine congrArg (m ((c : Thread nD τ).loc main_arg1)) (funext fun a => Fin.ext ?_)
  match a with
  | ⟨0, _⟩ => show 0 * 4096 + 1 * (j 0).val = (j 0).val; omega
  | ⟨1, _⟩ => show 0 * 512 + 1 * (j 1).val = (j 1).val; omega

/-- The array the one grid point leaves. -/
def result (c : Dev nD) : Buf (Elt Ideal) ((c : Thread nD τ).loc main_v0) := outsAt0 m c t0_0

theorem point_eq (t : Fin cfg0.N) : t = t0_0 :=
  Fin.ext (by have h := t.isLt; have e : cfg0.N = 1 := N_0; show t.val = 0; omega)

/-- What the point writes back is the whole of the array. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2, point_eq t]
  funext j
  refine congrArg (outsAt0 m c t0_0) (funext fun a => Fin.ext ?_)
  match a with
  | ⟨0, _⟩ => show (j 0).val = 0 * 8 + 1 * (j 0).val; omega
  | ⟨1, _⟩ => show (j 1).val = 0 * 128 + 1 * (j 1).val; omega

theorem cover (i : S8x128.Idx) : ∃ t : Fin cfg0.N, (cfg0.win 2).flush t = true ∧ i ∈ ((cfg0.win 2).blk t).view.set := by
  have h0 : (i 0 : Nat) < 8 := (i 0).isLt
  have h1 : (i 1 : Nat) < 128 := (i 1).isLt
  refine ⟨t0_0, flush0_2 _, ?_⟩
  show i ∈ ((View.whole main_v0).slice (win0_2.rect t0_0)).set
  rw [View.set_slice_whole, Rect.mem_set_unit]
  intro a
  match a with
  | ⟨0, _⟩ => show 0 * 8 ≤ (i 0 : Nat) ∧ (i 0 : Nat) < 0 * 8 + 8; omega
  | ⟨1, _⟩ => show 0 * 128 ≤ (i 1 : Nat) ∧ (i 1 : Nat) < 0 * 128 + 128; omega

theorem final (c : Dev nD) : (dats m 0 c).arrAt 2 cfg0.N = result m c :=
  (dats m 0 c).arrAt_eq_of_cover 2 (result m c) (fun t _ => flushed_eq m c t) cover

/-- The roles' penalty of the arguments. -/
def roleOf (c : Dev nD) : EReal :=
  Ideal.sqrt (Cert.Pen.defect (Cert.Pen.entries (n := 64) (d := 512) (m ((c : Thread nD τ).loc main_arg0))))

/-- The fillers' penalty of the arguments. -/
def fillerOf (c : Dev nD) : EReal :=
  Ideal.sqrt (Cert.Pen.expanded (Cert.Pen.entries (n := 4096) (d := 512) (m ((c : Thread nD τ).loc main_arg1))))

theorem result_eq (c : Dev nD) : ∃ a b : EReal, result m c = stats (F := Ideal) a b (roleOf m c) (fillerOf m c) := by
  unfold result outsAt0
  obtain ⟨a, b, e⟩ := out_eq (F := Ideal) c (ms0_0 t0_0) (hs0_0 t0_0) (ms0_1 t0_0) (hs0_1 t0_0) (ms0_2 t0_0) (hs0_2 t0_0)
    (iblk m c 0 t0_0) (iblk m c 1 t0_0)
  refine ⟨a, b, e.trans ?_⟩
  rw [roles_eq, fillers_eq, penalty_role, penalty_filler]
  rfl

/-- What the region leaves, read as the lines after it find it. -/
theorem region_v0 (c : Dev nD) :
    Pipeline.withArrays (cfgs 0).spec c (V0 m c) (fun w => (dats m 0 c).arrAt w (cfgs 0).N) (Proc.devRef .tc main_v0)
      = result m c :=
  (Pipeline.withArrays_arr (cfgs 0).spec (by decide) c (V0 m c) _ 2).trans (final m c)

/-- The loss: the first element. -/
theorem tail_v2 (c : Dev nD) : Pipeline.afterTail₀ cfgs (dats m) 0 (V0 m) [hostOps1] c main_v2
    = fun _ => Cert.Pen.weight * roleOf m c + Cert.Pen.weight * fillerOf m c := by
  show StableHlo.after hostOps1 _ (Proc.devRef .tc main_v2) = _
  after_results
  rw [region_v0]
  obtain ⟨a, b, e⟩ := result_eq m c
  rw [e]
  funext j
  refine Eq.trans ?_ (stats_loss a b (roleOf m c) (fillerOf m c))
  pointwise

/-- The penalty of the roles: the second element. -/
theorem tail_v4 (c : Dev nD) : Pipeline.afterTail₀ cfgs (dats m) 0 (V0 m) [hostOps1] c main_v4 = fun _ => roleOf m c := by
  show StableHlo.after hostOps1 _ (Proc.devRef .tc main_v4) = _
  after_results
  rw [region_v0]
  obtain ⟨a, b, e⟩ := result_eq m c
  rw [e]
  funext j
  refine Eq.trans ?_ (stats_role a b (roleOf m c) (fillerOf m c))
  pointwise

/-- The penalty of the fillers: the third element. -/
theorem tail_v6 (c : Dev nD) : Pipeline.afterTail₀ cfgs (dats m) 0 (V0 m) [hostOps1] c main_v6 = fun _ => fillerOf m c := by
  show StableHlo.after hostOps1 _ (Proc.devRef .tc main_v6) = _
  after_results
  rw [region_v0]
  obtain ⟨a, b, e⟩ := result_eq m c
  rw [e]
  funext j
  refine Eq.trans ?_ (stats_filler a b (roleOf m c) (fillerOf m c))
  pointwise

/-- THE RUN of the kernel's program: the loss and the penalties, the arguments unchanged. -/
theorem run : θ_run defs (onTc (τ := τ) (main (F := Ideal))) ⟨m, fun _ => 0, ρ⟩ fun r => ∀ c : Dev nD,
      r.2.mem ((c.tc : Thread nD τ).loc main_v2) = (fun _ => Cert.Pen.weight * roleOf m c + Cert.Pen.weight * fillerOf m c)
      ∧ r.2.mem ((c.tc : Thread nD τ).loc main_v4) = (fun _ => roleOf m c)
      ∧ r.2.mem ((c.tc : Thread nD τ).loc main_v6) = (fun _ => fillerOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v2 (by decide)).trans (tail_v2 m c),
      ((h.1 c).2 main_v4 (by decide)).trans (tail_v4 m c), ((h.1 c).2 main_v6 (by decide)).trans (tail_v6 m c),
      (h.2 c).1, (h.2 c).2⟩)
    (θ_run_and (run_main m ρ) (unchanged m ρ))

end Cert.Kernel2Ideal.Stats

end
-- ==== Proof.Finite.lean ====
/- What the precondition says: no filler is infinite. -/
module

public import proofs.«01_k».proof.Proof.Gen.Pre_finite_fillers
public import Idealize.ShloMosaic.Lib.ReduceAll
public import Idealize.ShloMosaic.Lib.Pointwise
public import Idealize.ShloMosaic.PureOps.Ideal.Laws

@[expose] public section

noncomputable section

namespace Cert.Pen

open Idealize.ShloMosaic Cert.Pre_finite_fillers Cert.Pre_finite_fillers.Gen

instance : Subsingleton S_.Idx := ⟨fun _ _ => funext fun a => a.elim0⟩

theorem inf_bits : Ideal.ofBits .f32 0x7F800000#32 = ⊤ := by
  simp [Ideal.ofBits, Ideal.ieee]

/-- Every filler is real. -/
theorem finite_of_pre (x : FVec Ideal S64x512 .f32) (y : FVec Ideal S4096x512 .f32)
    (h : fn (F := Ideal) x y = fun _ => 1#1) (i : S4096x512.Idx) : y i ≠ (⊤ : EReal) ∧ y i ≠ (⊥ : EReal) := by
  have e := Host.reduce_andi_all _ _ _ _ _ (congrFun h ix0) i
  revert e
  pointwise
  rw [inf_bits]
  intro e
  have lt : max (y i : EReal) (-(y i)) < ⊤ := by
    by_contra hn
    have hd : decide (FloatOps.absf (y i) < (⊤ : EReal)) = false := decide_eq_false hn
    rw [hd] at e
    exact absurd e (by decide)
  refine ⟨fun ht => ?_, fun hb => ?_⟩
  · exact absurd (lt_of_le_of_lt (le_max_left _ _) lt) (by rw [ht]; exact lt_irrefl _)
  · exact absurd (lt_of_le_of_lt (le_max_right _ _) lt) (by rw [hb, EReal.neg_bot]; exact lt_irrefl _)

end Cert.Pen

end
-- ==== Proof.Found3.lean ====
/- What the body of the call for the ranks stores, with what it reads: the two counts are those of two counted loops, each a fold over its trips. -/
module

public import proofs.«01_k».proof.Proof.Gen.Kernel3Ideal.Frame
public import Idealize.ShloMosaic.Lib.Tactic

@[expose] public section

noncomputable section

namespace Cert.Kernel3Ideal.Gen

open Idealize.ShloMosaic Idealize.ShloMosaic.TcCoe Idealize.ShloMosaic.Tactic

variable {F : FTy → Type} [FloatOps F]

/-- The matrix the elimination of the fillers starts from. -/
def fillerStart (y : FVec F S4096x512 .f32) : FVec F S512x512 .f32 :=
  k0_pay13 (k0_pay4 y) (k0_pay9 (k0_pay7 y) (k0_pay8 y))
    (k0_pay12 (k0_pay9 (k0_pay7 y) (k0_pay8 y)) (k0_pay10 (k0_pay7 y) (k0_pay8 y)) (k0_pay11 (k0_pay7 y) (k0_pay8 y)))

/-- One trip of the fillers' elimination. -/
def fillerTrip (t : Fin k0_t1_loop.trips) (s : FVec F S512x512 .f32 × F .f32) : FVec F S512x512 .f32 × F .f32 :=
  (k0_pay17 t s.1, k0_pay18 t s.1 s.2)

/-- The fillers' matrix after the elimination and the count of its positive pivots. -/
def fillerFold (y : FVec F S4096x512 .f32) : FVec F S512x512 .f32 × F .f32 :=
  Scf.fold fillerTrip (fillerStart y, Scalar.ofBits .f32 0x00000000#32)

/-- The roles' products, scaled and squared as far as the power iteration takes them. -/
def roleBase (v : FVec F S64x64 .f32) : FVec F S64x64 .f32 := k0_pay20 v (k0_pay19 v)

/-- The matrix the elimination of the roles starts from. -/
def roleStart (v : FVec F S64x64 .f32) : FVec F S64x64 .f32 :=
  k0_pay26 v (k0_pay24 v (roleBase v) (k0_pay22 (roleBase v) k0_pay21 (constant S64x1 .f32 0x00000000#32))
    (k0_pay23 (roleBase v) k0_pay21 (constant S64x1 .f32 0x00000000#32)) (Scalar.ofBits .f32 0x0DA24260#32)) k0_pay25

/-- One trip of the roles' elimination. -/
def roleTrip (t : Fin k0_t2_loop.trips) (s : FVec F S64x64 .f32 × F .f32) : FVec F S64x64 .f32 × F .f32 :=
  (k0_pay30 (iota .tc S64x64 32 [0] iota_S64x64_d0_w32) (iota .tc S64x64 32 [1] iota_S64x64_d1_w32) t s.1,
    k0_pay31 (iota .tc S64x64 32 [0] iota_S64x64_d0_w32) (iota .tc S64x64 32 [1] iota_S64x64_d1_w32) t s.1 s.2)

/-- The roles' matrix after the elimination and the count of its positive pivots. -/
def roleFold (x : FVec F S64x512 .f32) : FVec F S64x64 .f32 × F .f32 :=
  Scf.fold roleTrip (roleStart (k0_pay2 x), Scalar.ofBits .f32 0x00000000#32)

/-- The one piece the body stores: the shares missing to the full ranks in their places, and two further scalars (the penalties) in theirs. -/
theorem stored_eq (c : Dev nD) (arg0 : Memref sig .tc .vmem S64x512 .f32) (harg0 : arg0.IsWhole)
    (arg1 : Memref sig .tc .vmem S4096x512 .f32) (harg1 : arg1.IsWhole) (arg2 : Memref sig .tc .vmem S8x128 .f32)
    (harg2 : arg2.IsWhole) (x0 : Vec F S64x512 .f32) (x1 : Vec F S4096x512 .f32) :
    ∃ p q : F .f32, (kernelRun0_A c arg0 harg0 arg1 harg1 arg2 harg2 x0 x1).1
      = [⟨Rect.unit ![0, 0] ![8, 128] inb_S8x128_S8x128_0_0,
          k0_pay1
            (k0_pay32 (roleFold (View.readAt (Elt F) arg0.view (Rect.unit ![0, 0] S64x512.size inb_S64x512_S64x512_0_0).toLoadRect (harg0.unread x0))).2)
            (k0_pay33 (fillerFold (View.readAt (Elt F) arg1.view (Rect.unit ![0, 0] S4096x512.size inb_S4096x512_S4096x512_0_0).toLoadRect (harg1.unread x1))).2)
            (iota .tc S8x128 32 [1] iota_S8x128_d1_w32) k0_pay34 (k0_pay35 p q) k0_pay36⟩] := by
  unfold kernelRun0_A
  exact ⟨_, _, rfl⟩

end Cert.Kernel3Ideal.Gen

end
-- ==== Proof.Shares.lean ====
/- The results of the call for the ranks as functions of its arguments: what the one grid point writes back, and the elements the
   lines after it take out. -/
module

public import proofs.«01_k».proof.Proof.Found3
public import Idealize.ShloMosaic.Lib.Pointwise
public import Idealize.ShloMosaic.Lib.Pipeline.Value
public import Idealize.ShloMosaic.Lib.StableHlo.Run
public import Idealize.ShloMosaic.Lib.Tactic

@[expose] public section

noncomputable section

namespace Cert.Kernel3Ideal.Stats

open Cert.Kernel3Ideal Cert.Kernel3Ideal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section Any
variable {F : FTy → Type} [FloatOps F]

/-- The block the body stores, from the penalties and the ranks. -/
def stats (a b p q : F .f32) : FVec F S8x128 .f32 :=
  k0_pay1 a b (iota .tc S8x128 32 [1] iota_S8x128_d1_w32) k0_pay34 (k0_pay35 p q) k0_pay36

/-- What the body leaves in the output's staging buffer. -/
theorem out_eq (c : Dev nD) (arg0 : Memref sig .tc .vmem S64x512 .f32) (harg0 : arg0.IsWhole)
    (arg1 : Memref sig .tc .vmem S4096x512 .f32) (harg1 : arg1.IsWhole) (arg2 : Memref sig .tc .vmem S8x128 .f32)
    (harg2 : arg2.IsWhole) (x0 : Vec F S64x512 .f32) (x1 : Vec F S4096x512 .f32) :
    ∃ p q : F .f32, out0_A_2 c arg0 harg0 arg1 harg1 arg2 harg2 x0 x1
      = stats (k0_pay32 (roleFold x0).2) (k0_pay33 (fillerFold x1).2) p q := by
  obtain ⟨p, q, e⟩ := stored_eq c arg0 harg0 arg1 harg1 arg2 harg2 x0 x1
  refine ⟨p, q, ?_⟩
  unfold out0_A_2
  rw [View.read_writes_eq_canon _ _ _ (cover0_A_2 c arg0 harg0 arg1 harg1 arg2 harg2 x0 x1), e,
    View.canon_unit_zero (S := S8x128) hz]
  simp only [View.readAt_eq_ld, harg0.read_unread, harg1.read_unread, View.ld_unit_zero (S := S64x512) hz,
    View.ld_unit_zero (S := S4096x512) hz]
  rfl

end Any

/-- The roles' share is the fourth element. -/
theorem stats_role (a b p q : Ideal .f32) : stats a b p q (ix2 0 3) = a := by
  unfold stats k0_pay1 k0_pay35 k0_pay34 k0_pay36
  pointwise
  simp [Scalar.select, IntOp.andi, IntOp.cmpi]

/-- The fillers' share is the fifth. -/
theorem stats_filler (a b p q : Ideal .f32) : stats a b p q (ix2 0 4) = b := by
  unfold stats k0_pay1 k0_pay35 k0_pay34 k0_pay36
  pointwise
  simp [Scalar.select, IntOp.andi, IntOp.cmpi]

variable (m : (ℓ : Loc nD τ sig) → Buf (Elt Ideal) ℓ) (ρ : Dev nD → PrngReg)

/-- The block of roles is the whole of them. -/
theorem roles_eq (c : Dev nD) (t : Fin cfg0.N) : iblk m c 0 t = m ((c : Thread nD τ).loc main_arg0) := by
  unfold iblk
  funext j
  refine congrArg (m ((c : Thread nD τ).loc main_arg0)) (funext fun a => Fin.ext ?_)
  match a with
  | ⟨0, _⟩ => show 0 * 64 + 1 * (j 0).val = (j 0).val; omega
  | ⟨1, _⟩ => show 0 * 512 + 1 * (j 1).val = (j 1).val; omega

/-- The block of fillers is the whole of them. -/
theorem fillers_eq (c : Dev nD) (t : Fin cfg0.N) : iblk m c 1 t = m ((c : Thread nD τ).loc main_arg1) := by
  unfold iblk
  funext j
  refine congrArg (m ((c : Thread nD τ).loc main_arg1)) (funext fun a => Fin.ext ?_)
  match a with
  | ⟨0, _⟩ => show 0 * 4096 + 1 * (j 0).val = (j 0).val; omega
  | ⟨1, _⟩ => show 0 * 512 + 1 * (j 1).val = (j 1).val; omega

/-- The array the one grid point leaves. -/
def result (c : Dev nD) : Buf (Elt Ideal) ((c : Thread nD τ).loc main_v0) := outsAt0 m c t0_0

theorem point_eq (t : Fin cfg0.N) : t = t0_0 :=
  Fin.ext (by have h := t.isLt; have e : cfg0.N = 1 := N_0; show t.val = 0; omega)

/-- What the point writes back is the whole of the array. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2, point_eq t]
  funext j
  refine congrArg (outsAt0 m c t0_0) (funext fun a => Fin.ext ?_)
  match a with
  | ⟨0, _⟩ => show (j 0).val = 0 * 8 + 1 * (j 0).val; omega
  | ⟨1, _⟩ => show (j 1).val = 0 * 128 + 1 * (j 1).val; omega

theorem cover (i : S8x128.Idx) : ∃ t : Fin cfg0.N, (cfg0.win 2).flush t = true ∧ i ∈ ((cfg0.win 2).blk t).view.set := by
  have h0 : (i 0 : Nat) < 8 := (i 0).isLt
  have h1 : (i 1 : Nat) < 128 := (i 1).isLt
  refine ⟨t0_0, flush0_2 _, ?_⟩
  show i ∈ ((View.whole main_v0).slice (win0_2.rect t0_0)).set
  rw [View.set_slice_whole, Rect.mem_set_unit]
  intro a
  match a with
  | ⟨0, _⟩ => show 0 * 8 ≤ (i 0 : Nat) ∧ (i 0 : Nat) < 0 * 8 + 8; omega
  | ⟨1, _⟩ => show 0 * 128 ≤ (i 1 : Nat) ∧ (i 1 : Nat) < 0 * 128 + 128; omega

theorem final (c : Dev nD) : (dats m 0 c).arrAt 2 cfg0.N = result m c :=
  (dats m 0 c).arrAt_eq_of_cover 2 (result m c) (fun t _ => flushed_eq m c t) cover

/-- The roles' share of the arguments. -/
def roleOf (c : Dev nD) : EReal := k0_pay32 (F := Ideal) (roleFold (m ((c : Thread nD τ).loc main_arg0))).2

/-- The fillers' share of the arguments. -/
def fillerOf (c : Dev nD) : EReal := k0_pay33 (F := Ideal) (fillerFold (m ((c : Thread nD τ).loc main_arg1))).2

theorem result_eq (c : Dev nD) : ∃ p q : EReal, result m c = stats (F := Ideal) (roleOf m c) (fillerOf m c) p q := by
  unfold result outsAt0
  obtain ⟨p, q, e⟩ := out_eq (F := Ideal) c (ms0_0 t0_0) (hs0_0 t0_0) (ms0_1 t0_0) (hs0_1 t0_0) (ms0_2 t0_0) (hs0_2 t0_0)
    (iblk m c 0 t0_0) (iblk m c 1 t0_0)
  refine ⟨p, q, e.trans ?_⟩
  rw [roles_eq, fillers_eq]
  rfl

/-- What the region leaves, read as the lines after it find it. -/
theorem region_v0 (c : Dev nD) :
    Pipeline.withArrays (cfgs 0).spec c (V0 m c) (fun w => (dats m 0 c).arrAt w (cfgs 0).N) (Proc.devRef .tc main_v0)
      = result m c :=
  (Pipeline.withArrays_arr (cfgs 0).spec (by decide) c (V0 m c) _ 2).trans (final m c)

/-- The roles' share: the fourth element. -/
theorem tail_v2 (c : Dev nD) : Pipeline.afterTail₀ cfgs (dats m) 0 (V0 m) [hostOps1] c main_v2 = fun _ => roleOf m c := by
  show StableHlo.after hostOps1 _ (Proc.devRef .tc main_v2) = _
  after_results
  rw [region_v0]
  obtain ⟨p, q, e⟩ := result_eq m c
  rw [e]
  funext j
  refine Eq.trans ?_ (stats_role (roleOf m c) (fillerOf m c) p q)
  pointwise

/-- The fillers' share: the fifth element. -/
theorem tail_v4 (c : Dev nD) : Pipeline.afterTail₀ cfgs (dats m) 0 (V0 m) [hostOps1] c main_v4 = fun _ => fillerOf m c := by
  show StableHlo.after hostOps1 _ (Proc.devRef .tc main_v4) = _
  after_results
  rw [region_v0]
  obtain ⟨p, q, e⟩ := result_eq m c
  rw [e]
  funext j
  refine Eq.trans ?_ (stats_filler (roleOf m c) (fillerOf m c) p q)
  pointwise

/-- THE RUN of the kernel's program: the two shares, the arguments unchanged. -/
theorem run : θ_run defs (onTc (τ := τ) (main (F := Ideal))) ⟨m, fun _ => 0, ρ⟩ fun r => ∀ c : Dev nD,
      r.2.mem ((c.tc : Thread nD τ).loc main_v2) = (fun _ => roleOf m c)
      ∧ r.2.mem ((c.tc : Thread nD τ).loc main_v4) = (fun _ => fillerOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).2 main_v2 (by decide)).trans (tail_v2 m c),
      ((h.1 c).2 main_v4 (by decide)).trans (tail_v4 m c), h.2 c⟩)
    (θ_run_and (run_main m ρ) (unchanged m ρ))

end Cert.Kernel3Ideal.Stats

end
-- ==== Proof.Pivots.lean ====
/- Elimination without interchanges on a positive definite matrix, and the Gram matrix of one with a known singular value decomposition: every
   pivot is positive once less than the least squared singular value is taken off the diagonal. -/
module

public import Mathlib.Algebra.BigOperators.Field
public import Mathlib.Data.Real.Basic
public import Mathlib.LinearAlgebra.Matrix.NonsingularInverse
public import Mathlib.Tactic.Ring
public import Mathlib.Tactic.Positivity
public import Mathlib.Tactic.FieldSimp
public import Mathlib.Tactic.Linarith

@[expose] public section

noncomputable section

namespace Cert.Rank

open Matrix

variable {n m : Nat}

/-- The quadratic form of a matrix. -/
def form (c : Fin n → Fin n → ℝ) (x : Fin n → ℝ) : ℝ := ∑ i, ∑ j, x i * c i j * x j

/-- Symmetric and positive definite on the indices from `k` on. -/
def PosFrom (k : Nat) (c : Fin n → Fin n → ℝ) : Prop :=
  (∀ i j : Fin n, k ≤ i.val → k ≤ j.val → c i j = c j i) ∧
    ∀ x : Fin n → ℝ, (∀ i : Fin n, i.val < k → x i = 0) → (∃ i, x i ≠ 0) → 0 < form c x

/-- One step of elimination: pivot `k` is taken out of the rows and columns after it. -/
def eliminate (k : Fin n) (c : Fin n → Fin n → ℝ) : Fin n → Fin n → ℝ :=
  fun i j => c i j - if k < i ∧ k < j then c i k * c k j / c k k else 0

theorem PosFrom.pivot {k : Fin n} {c : Fin n → Fin n → ℝ} (h : PosFrom k.val c) : 0 < c k k := by
  have := h.2 (fun i => if i = k then 1 else 0) (fun i hi => if_neg fun e => by subst e; omega) ⟨k, by simp⟩
  simpa [form] using this

/-- The form of a vector less a multiple of the `k`th unit vector. -/
theorem form_sub (c : Fin n → Fin n → ℝ) (x : Fin n → ℝ) (k : Fin n) (e : ℝ) :
    form c (fun i => x i - e * if i = k then 1 else 0)
      = form c x - e * (∑ j, c k j * x j) - e * (∑ i, x i * c i k) + e * e * c k k := by
  have h : ∀ i j, (x i - e * if i = k then 1 else 0) * c i j * (x j - e * if j = k then 1 else 0)
      = x i * c i j * x j - (if i = k then e * (c k j * x j) else 0) - (if j = k then e * (x i * c i k) else 0)
        + (if i = k then if j = k then e * e * c k k else 0 else 0) := by
    intro i j
    by_cases hi : i = k <;> by_cases hj : j = k <;> simp [hi, hj] <;> ring
  unfold form
  simp only [h, Finset.sum_add_distrib, Finset.sum_sub_distrib]
  have h1 : ∑ i : Fin n, ∑ j : Fin n, (if i = k then e * (c k j * x j) else 0) = e * ∑ j, c k j * x j := by
    rw [Finset.sum_comm]
    simp [Finset.mul_sum]
  have h2 : ∑ i : Fin n, ∑ j : Fin n, (if j = k then e * (x i * c i k) else 0) = e * ∑ i, x i * c i k := by
    simp [Finset.mul_sum]
  have h3 : ∑ i : Fin n, ∑ j : Fin n, (if i = k then if j = k then e * e * c k k else 0 else 0) = e * e * c k k := by
    rw [Finset.sum_comm]
    simp
  rw [h1, h2, h3]

/-- The form after a step, of a vector supported after the pivot. -/
theorem form_eliminate (c : Fin n → Fin n → ℝ) (x : Fin n → ℝ) (k : Fin n) (hx : ∀ i, ¬ k < i → x i = 0) :
    form (eliminate k c) x = form c x - (∑ i, x i * c i k) * (∑ j, c k j * x j) / c k k := by
  have h : ∀ i j, x i * eliminate k c i j * x j = x i * c i j * x j - x i * c i k * (c k j * x j) / c k k := by
    intro i j
    unfold eliminate
    by_cases hi : k < i
    · by_cases hj : k < j
      · rw [if_pos ⟨hi, hj⟩]; ring
      · rw [hx j hj]; ring
    · rw [hx i hi]; ring
  unfold form
  simp only [h, Finset.sum_sub_distrib, Finset.sum_mul_sum, Finset.sum_div]

theorem PosFrom.step {k : Fin n} {c : Fin n → Fin n → ℝ} (h : PosFrom k.val c) : PosFrom (k.val + 1) (eliminate k c) := by
  refine ⟨fun i j hi hj => ?_, fun x hx hne => ?_⟩
  · unfold eliminate
    have l1 : k < i := hi
    have l2 : k < j := hj
    rw [if_pos ⟨l1, l2⟩, if_pos ⟨l2, l1⟩, h.1 i j (by omega) (by omega), h.1 i k (by omega) le_rfl, h.1 k j le_rfl (by omega)]
    ring
  · have hd := h.pivot
    have hx' : ∀ i, ¬ k < i → x i = 0 := fun i hi => hx i (by have : i.val ≤ k.val := not_lt.1 hi; omega)
    have hb : ∑ i, x i * c i k = ∑ j, c k j * x j := Finset.sum_congr rfl fun i _ => by
      by_cases hi : k < i
      · rw [h.1 i k (le_of_lt hi) le_rfl]; ring
      · rw [hx' i hi]; ring
    rw [form_eliminate c x k hx', hb]
    set b := ∑ j, c k j * x j with hbd
    have hy := h.2 (fun i => x i - b / c k k * if i = k then 1 else 0)
      (fun i hi => by
        have : i ≠ k := fun e => by subst e; omega
        simp [this, hx i (by omega)])
      (by
        obtain ⟨i, hi⟩ := hne
        refine ⟨i, ?_⟩
        have : i ≠ k := fun e => hi (hx' i (by subst e; exact lt_irrefl _))
        simpa [this] using hi)
    rw [form_sub, hb, ← hbd] at hy
    have e : form c x - b / c k k * b - b / c k k * b + b / c k k * (b / c k k) * c k k = form c x - b * b / c k k := by
      field_simp
      ring
    rwa [e] at hy

/-- A Gram matrix with a multiple of the identity taken off. -/
def shifted (X : Fin n → Fin m → ℝ) (t : ℝ) : Fin n → Fin n → ℝ :=
  fun i j => (∑ k, X i k * X j k) - t * if i = j then 1 else 0

theorem form_shifted (X : Fin n → Fin m → ℝ) (t : ℝ) (x : Fin n → ℝ) :
    form (shifted X t) x = (∑ i, x i * ∑ j, (∑ k, X i k * X j k) * x j) - t * ∑ i, x i * x i := by
  have h : ∀ i j, x i * shifted X t i j * x j = x i * ((∑ k, X i k * X j k) * x j) - if i = j then t * (x i * x j) else 0 := by
    intro i j
    unfold shifted
    split <;> ring
  unfold form
  simp only [h, Finset.sum_sub_distrib, ← Finset.mul_sum, Finset.sum_ite_eq, Finset.mem_univ, if_true]

/-- A decomposition `X = Pᵀ diag(s) Q`, `P` square, the rows of `P` and of `Q` orthonormal. -/
structure Decomposed (X : Fin n → Fin m → ℝ) (P : Fin n → Fin n → ℝ) (s : Fin n → ℝ) (Q : Fin n → Fin m → ℝ) : Prop where
  left : ∀ a b, ∑ i, P a i * P b i = if a = b then 1 else 0
  right : ∀ a b, ∑ k, Q a k * Q b k = if a = b then 1 else 0
  product : ∀ i k, X i k = ∑ a, P a i * s a * Q a k

variable {X : Fin n → Fin m → ℝ} {P : Fin n → Fin n → ℝ} {s : Fin n → ℝ} {Q : Fin n → Fin m → ℝ}

theorem Decomposed.norm (h : Decomposed X P s Q) (x : Fin n → ℝ) :
    ∑ a, (∑ i, P a i * x i) * (∑ i, P a i * x i) = ∑ i, x i * x i := by
  have h1 : (of P) * (of P)ᵀ = 1 := by
    ext a b
    simp [Matrix.mul_apply, Matrix.one_apply, h.left]
  have h2 : (of P)ᵀ * (of P) = 1 := mul_eq_one_comm.1 h1
  have h3 : ((of P) *ᵥ x) ⬝ᵥ ((of P) *ᵥ x) = x ⬝ᵥ x := by
    rw [Matrix.dotProduct_mulVec, Matrix.vecMul_mulVec, h2]
    simp
  simpa [Matrix.mulVec, dotProduct] using h3

theorem Decomposed.gram (h : Decomposed X P s Q) (x : Fin n → ℝ) :
    ∑ i, x i * ∑ j, (∑ k, X i k * X j k) * x j = ∑ a, s a * s a * ((∑ i, P a i * x i) * (∑ i, P a i * x i)) := by
  have hX : of X = (of P)ᵀ * diagonal s * of Q := by
    ext i k
    simp [Matrix.mul_apply, h.product, Matrix.diagonal, Finset.sum_mul]
  have hQ : (of Q) * (of Q)ᵀ = 1 := by
    ext a b
    simp [Matrix.mul_apply, Matrix.one_apply, h.right]
  have hG : of X * (of X)ᵀ = (of P)ᵀ * diagonal (fun a => s a * s a) * of P := by
    rw [hX, ← Matrix.diagonal_mul_diagonal]
    simp only [Matrix.transpose_mul, Matrix.transpose_transpose, Matrix.diagonal_transpose]
    calc (of P)ᵀ * diagonal s * of Q * ((of Q)ᵀ * (diagonal s * of P))
        = (of P)ᵀ * diagonal s * (of Q * (of Q)ᵀ) * (diagonal s * of P) := by simp only [Matrix.mul_assoc]
      _ = (of P)ᵀ * (diagonal s * diagonal s) * of P := by rw [hQ]; simp only [Matrix.mul_one, Matrix.mul_assoc]
  have h3 : x ⬝ᵥ ((of X * (of X)ᵀ) *ᵥ x) = ((of P) *ᵥ x) ⬝ᵥ (diagonal (fun a => s a * s a) *ᵥ ((of P) *ᵥ x)) := by
    rw [hG, ← Matrix.mulVec_mulVec, ← Matrix.mulVec_mulVec, Matrix.dotProduct_mulVec, Matrix.vecMul_transpose]
  have h4 : x ⬝ᵥ ((of X * (of X)ᵀ) *ᵥ x) = ∑ i, x i * ∑ j, (∑ k, X i k * X j k) * x j := by
    simp [Matrix.mulVec, dotProduct, Matrix.mul_apply]
  rw [← h4, h3]
  refine Finset.sum_congr rfl fun a _ => ?_
  rw [Matrix.mulVec_diagonal]
  simp only [Matrix.mulVec, dotProduct, of_apply]
  ring

/-- Every singular value lies above the fraction `f < 1` of a bound `M`, and the estimate of the largest squared one comes of a vector not longer
    than 1: what remains of the Gram matrix is positive definite. -/
theorem Decomposed.posFrom (h : Decomposed X P s Q) {M f : ℝ} (f0 : 0 ≤ f) (f1 : f < 1) (le : ∀ a, s a ≤ M) (lt : ∀ a, M * f < s a)
    {w : Fin n → ℝ} (hw : ∑ i, w i * w i ≤ 1) :
    PosFrom 0 (shifted X ((∑ i, w i * ∑ j, (∑ k, X i k * X j k) * w j) * (f * f))) := by
  refine ⟨fun i j _ _ => ?_, fun x _ hne => ?_⟩
  · unfold shifted
    have e1 : ∑ k, X i k * X j k = ∑ k, X j k * X i k := Finset.sum_congr rfl fun k _ => mul_comm _ _
    have e2 : (if i = j then (1 : ℝ) else 0) = if j = i then 1 else 0 := by simp only [eq_comm]
    rw [e1, e2]
  · have M0 : ∀ a, 0 < M ∧ 0 ≤ M * f := fun a => by
      have h1 := le a
      have h2 := lt a
      have : 0 < M * (1 - f) := by linarith
      have M0 : 0 < M := by
        by_contra hn
        nlinarith
      exact ⟨M0, by positivity⟩
    have bound : (∑ i, w i * ∑ j, (∑ k, X i k * X j k) * w j) ≤ M * M := by
      rw [h.gram w]
      calc ∑ a, s a * s a * ((∑ i, P a i * w i) * (∑ i, P a i * w i))
          ≤ ∑ a, M * M * ((∑ i, P a i * w i) * (∑ i, P a i * w i)) := by
            refine Finset.sum_le_sum fun a _ => mul_le_mul_of_nonneg_right ?_ (mul_self_nonneg _)
            have := lt a
            exact mul_self_le_mul_self (by linarith [(M0 a).2]) (le a)
        _ = M * M * ∑ i, w i * w i := by rw [← Finset.mul_sum, h.norm w]
        _ ≤ M * M := mul_le_of_le_one_right (mul_self_nonneg _) hw
    rw [form_shifted, h.gram x, ← h.norm x, Finset.mul_sum, ← Finset.sum_sub_distrib]
    have each : ∀ a, (∑ i, w i * ∑ j, (∑ k, X i k * X j k) * w j) * (f * f) < s a * s a := fun a =>
      calc _ ≤ M * M * (f * f) := mul_le_mul_of_nonneg_right bound (mul_self_nonneg _)
        _ = (M * f) * (M * f) := by ring
        _ < s a * s a := mul_self_lt_mul_self (M0 a).2 (lt a)
    have pos : 0 < ∑ a, (∑ i, P a i * x i) * (∑ i, P a i * x i) := by
      rw [h.norm x]
      obtain ⟨i, hi⟩ := hne
      exact Finset.sum_pos' (fun i _ => mul_self_nonneg _) ⟨i, Finset.mem_univ _, mul_self_pos.2 hi⟩
    obtain ⟨a, _, ha⟩ := Finset.exists_lt_of_sum_lt (s := Finset.univ) (f := fun _ : Fin n => (0 : ℝ)) (by simpa using pos)
    refine Finset.sum_pos' (fun a _ => ?_) ⟨a, Finset.mem_univ _, ?_⟩
    · have := mul_le_mul_of_nonneg_right (each a).le (mul_self_nonneg (∑ i, P a i * x i))
      linarith
    · have := mul_lt_mul_of_pos_right (each a) ha
      linarith

end Cert.Rank

end
-- ==== Proof.Power.lean ====
/- The estimate of the largest eigenvalue: whatever the iteration does, its last vector is real and not longer than 1, and the estimate is the form
   of the matrix at that vector. -/
module

public import proofs.«01_k».proof.Proof.Gram
public import proofs.«01_k».proof.Proof.Pivots
public import Idealize.ShloMosaic.Lib.Pointwise
public import Idealize.ShloMosaic.PureOps.Ideal.Laws

@[expose] public section

noncomputable section

namespace Cert.Rank

open Idealize.ShloMosaic
open Cert.Pen (coe_sum)

/-- An `n × d` matrix of the program. -/
abbrev Mat (n d : Nat) : Type := FVec Ideal ⟨2, ![n, d]⟩ .f32

variable {n d : Nat}

/-- The entries of `x` are the reals `r`. -/
def Holds (x : Mat n d) (r : Fin n → Fin d → ℝ) : Prop := ∀ i j, x (ix2 i j) = (r i j : EReal)

/-- The kernel's guard against a division by zero. -/
abbrev tiny : EReal := Ideal.ofBits .f32 0x0DA24260#32

theorem tiny_bits : ∃ e : ℝ, 0 < e ∧ tiny = (e : EReal) := by
  refine ⟨10633824 / 2 ^ 123, by positivity, ?_⟩
  simp [tiny, Ideal.ofBits, Ideal.ieee]
  rw [← EReal.coe_mul]
  norm_num

theorem div_coe (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

theorem sqrt_coe {x : ℝ} (hx : 0 ≤ x) : Ideal.sqrt (x : EReal) = ((Real.sqrt x : ℝ) : EReal) := by
  show (if x < 0 then (⊥ : EReal) else (Real.sqrt x : EReal)) = _
  rw [if_neg (not_lt.2 hx)]

/-- `x` divided by the root of `q`, guarded. -/
def scale {s : Shape} (x : FVec Ideal s .f32) (q : EReal) : FVec Ideal s .f32 :=
  divf x (broadcast s (Scalar.sqrt (F := Ideal) (Scalar.maximumf (F := Ideal) q (Scalar.ofBits .f32 0x0DA24260#32))))

theorem scale_apply {s : Shape} (x : FVec Ideal s .f32) (q : EReal) (i : s.Idx) : scale x q i = Ideal.div (x i) (Ideal.sqrt (max q tiny)) := rfl

/-- Real entries, scaled: real again, and their squares add up to at most 1 where `q` is their sum before. -/
theorem scale_real {x : Mat n d} {r : Fin n → Fin d → ℝ} (h : Holds x r) {q : ℝ} (hq : q = ∑ i, ∑ j, r i j * r i j) :
    ∃ u : Fin n → Fin d → ℝ, Holds (scale x (q : EReal)) u ∧ ∑ i, ∑ j, u i j * u i j ≤ 1 := by
  obtain ⟨e, e0, he⟩ := tiny_bits
  have m0 : 0 < max q e := lt_of_lt_of_le e0 (le_max_right _ _)
  have s0 : Real.sqrt (max q e) ≠ 0 := (Real.sqrt_pos.2 m0).ne'
  refine ⟨fun i j => r i j / Real.sqrt (max q e), fun i j => ?_, ?_⟩
  · rw [scale_apply, h, he, ← EReal.coe_strictMono.monotone.map_max, sqrt_coe m0.le, div_coe _ s0]
  · have : ∀ i j, r i j / Real.sqrt (max q e) * (r i j / Real.sqrt (max q e)) = r i j * r i j / max q e := fun i j => by
      rw [div_mul_div_comm, Real.mul_self_sqrt m0.le]
    simp only [this, ← Finset.sum_div, ← hq]
    exact (div_le_one m0).2 (le_max_left _ _)

/-- Products and sums as the kernel computes them, of matrices and of columns. -/
structure Ops (n : Nat) where
  mul : Mat n n → Mat n n → Mat n n
  act : Mat n n → Mat n 1 → Mat n 1
  sumM : Mat n n → EReal
  sumC : Mat n 1 → EReal
  mul_eq : ∀ a b i j, mul a b (ix2 i j) = ∑ k, a (ix2 i k) * b (ix2 k j)
  act_eq : ∀ a b i j, act a b (ix2 i j) = ∑ k, a (ix2 i k) * b (ix2 k j)
  sumM_eq : ∀ a, sumM a = ∑ i, ∑ j, a (ix2 i j)
  sumC_eq : ∀ a, sumC a = ∑ i, ∑ j, a (ix2 i j)

namespace Ops

variable (o : Ops n)

def unitM (a : Mat n n) : Mat n n := scale a (o.sumM (mulf a a))

def unitC (a : Mat n 1) : Mat n 1 := scale a (o.sumC (mulf a a))

/-- A squaring. -/
def square (a : Mat n n) : Mat n n := o.unitM (o.mul a a)

/-- A step of the iteration. -/
def advance (a : Mat n n) (x : Mat n 1) : Mat n 1 := o.unitC (o.act a x)

/-- The matrix scaled and squared four times. -/
def base (c : Mat n n) : Mat n n := o.square (o.square (o.square (o.square (o.unitM c))))

/-- The column of ones. -/
def ones : Mat n 1 := broadcast _ (Scalar.ofBits (F := Ideal) .f32 0x3F800000#32)

/-- Eight steps from the column of ones. -/
def last (b : Mat n n) : Mat n 1 :=
  o.advance b (o.advance b (o.advance b (o.advance b (o.advance b (o.advance b (o.advance b (o.advance b ones)))))))

/-- The form of `c` at the last vector. -/
def estimate (c : Mat n n) : EReal := o.sumC (mulf (o.last (o.base c)) (o.act c (o.last (o.base c))))

variable {o}

theorem sumM_real {a : Mat n n} {r : Fin n → Fin n → ℝ} (h : Holds a r) : o.sumM (mulf a a) = ((∑ i, ∑ j, r i j * r i j : ℝ) : EReal) := by
  rw [o.sumM_eq]
  simp only [coe_sum, EReal.coe_mul, ← h _ _]
  rfl

theorem sumC_real {a b : Mat n 1} {r s : Fin n → Fin 1 → ℝ} (h : Holds a r) (h' : Holds b s) :
    o.sumC (mulf a b) = ((∑ i, ∑ j, r i j * s i j : ℝ) : EReal) := by
  rw [o.sumC_eq]
  simp only [coe_sum, EReal.coe_mul, ← h _ _, ← h' _ _]
  rfl

theorem act_real {a : Mat n n} {x : Mat n 1} {r : Fin n → Fin n → ℝ} {s : Fin n → Fin 1 → ℝ} (h : Holds a r) (h' : Holds x s) :
    Holds (o.act a x) fun i j => ∑ k, r i k * s k j := fun i j => by
  rw [o.act_eq]
  simp only [coe_sum, EReal.coe_mul, h _ _, h' _ _]

theorem mul_real {a b : Mat n n} {r s : Fin n → Fin n → ℝ} (h : Holds a r) (h' : Holds b s) :
    Holds (o.mul a b) fun i j => ∑ k, r i k * s k j := fun i j => by
  rw [o.mul_eq]
  simp only [coe_sum, EReal.coe_mul, h _ _, h' _ _]

theorem unitM_real {a : Mat n n} (h : ∃ r, Holds a r) : ∃ u, Holds (o.unitM a) u := by
  obtain ⟨r, h⟩ := h
  unfold unitM
  rw [sumM_real h]
  obtain ⟨u, hu, _⟩ := scale_real h rfl
  exact ⟨u, hu⟩

theorem square_real {a : Mat n n} (h : ∃ r, Holds a r) : ∃ u, Holds (o.square a) u := by
  obtain ⟨r, h⟩ := h
  exact unitM_real ⟨_, mul_real h h⟩

theorem base_real {a : Mat n n} (h : ∃ r, Holds a r) : ∃ u, Holds (o.base a) u :=
  square_real (square_real (square_real (square_real (unitM_real h))))

theorem advance_real {a : Mat n n} (h : ∃ r, Holds a r) {x : Mat n 1} (hx : ∃ s, Holds x s) :
    ∃ u : Fin n → Fin 1 → ℝ, Holds (o.advance a x) u ∧ ∑ i, ∑ j, u i j * u i j ≤ 1 := by
  obtain ⟨r, h⟩ := h
  obtain ⟨s, hx⟩ := hx
  unfold advance unitC
  have := act_real (o := o) h hx
  rw [sumC_real this this]
  exact scale_real this rfl

theorem one_bits : Ideal.ofBits .f32 0x3F800000#32 = ((1 : ℝ) : EReal) := by
  simp [Ideal.ofBits, Ideal.ieee]
  rw [← EReal.coe_mul]
  norm_num

theorem last_real {b : Mat n n} (h : ∃ r, Holds b r) :
    ∃ u : Fin n → Fin 1 → ℝ, Holds (o.last b) u ∧ ∑ i, ∑ j, u i j * u i j ≤ 1 := by
  have go : ∀ {x : Mat n 1}, (∃ s, Holds x s) → ∃ s, Holds (o.advance b x) s := fun hx =>
    let ⟨u, hu, _⟩ := advance_real h hx
    ⟨u, hu⟩
  have start : ∃ s, Holds (ones : Mat n 1) s := ⟨fun _ _ => 1, fun _ _ => one_bits⟩
  exact advance_real h (go (go (go (go (go (go (go start)))))))

/-- The estimate is the form of the matrix at a real vector not longer than 1. -/
theorem estimate_real {c : Mat n n} {r : Fin n → Fin n → ℝ} (h : Holds c r) :
    ∃ w : Fin n → ℝ, ∑ i, w i * w i ≤ 1 ∧ o.estimate c = ((∑ i, w i * ∑ j, r i j * w j : ℝ) : EReal) := by
  obtain ⟨u, hu, le⟩ := last_real (o := o) (base_real ⟨r, h⟩)
  refine ⟨fun i => u i 0, by simpa using le, ?_⟩
  unfold estimate
  rw [sumC_real hu (act_real h hu)]
  simp

end Ops

end Cert.Rank

end
-- ==== Proof.Elimination.lean ====
/- The kernel's elimination, trip by trip: started from a positive definite matrix it finds every pivot positive. -/
module

public import proofs.«01_k».proof.Proof.Power
public import proofs.«01_k».proof.Proof.Penalties
public import Idealize.ShloMosaic.Lib.Exec

@[expose] public section

noncomputable section

namespace Cert.Rank

open Idealize.ShloMosaic
open Cert.Pen (coe_sum)

variable {n d : Nat}

theorem iv_eq (k : Nat) : Scf.iv 0#32 1#32 k = BitVec.ofNat 32 k := by
  unfold Scf.iv
  rw [BitVec.zero_add, BitVec.mul_one]

theorem eq_word (hn : n ≤ 4096) (i k : Fin n) : IntOp.cmpi .eq (BitVec.ofNat 32 i.val) (Scf.iv 0#32 1#32 k.val) = BitVec.ofBool (decide (i = k)) := by
  rw [iv_eq]
  by_cases h : i = k
  · subst h; simp [IntOp.cmpi]
  · simp only [IntOp.cmpi, Cert.Pen.cmp_ne hn h, h, decide_false]

theorem gt_word (hn : n ≤ 4096) (i k : Fin n) : IntOp.cmpi .sgt (BitVec.ofNat 32 i.val) (Scf.iv 0#32 1#32 k.val) = BitVec.ofBool (decide (k < i)) := by
  rw [iv_eq]
  have e : ∀ a : Fin n, (BitVec.ofNat 32 a.val).toInt = a.val := fun a => by
    have := a.isLt
    rw [BitVec.toInt_eq_toNat_cond, BitVec.toNat_ofNat, Nat.mod_eq_of_lt (by omega), if_pos (by omega)]
  have : (BitVec.ofNat 32 k.val).slt (BitVec.ofNat 32 i.val) = decide (k < i) := by
    rw [BitVec.slt_eq_decide, e, e]
    simp
  simp only [IntOp.cmpi, this]

theorem select_word {α : Type} (p : Prop) [Decidable p] (a b : α) : Scalar.select (BitVec.ofBool (decide p)) a b = if p then a else b := by
  by_cases h : p <;> simp [h, Scalar.select]

theorem and_word (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The kernel's pivot of trip `k`: the sum of the matrix with all but that element struck out. -/
def pivotOf (k : Nat) (c : Mat n n) : EReal :=
  ∑ x : Fin n, ∑ y : Fin n, Scalar.select
    (IntOp.andi (IntOp.cmpi .eq (BitVec.ofNat 32 x.val) (Scf.iv 0#32 1#32 k)) (IntOp.cmpi .eq (BitVec.ofNat 32 y.val) (Scf.iv 0#32 1#32 k)))
    (c (ix2 x y)) 0

/-- An element after trip `k`, with pivot `p`. -/
def stepOf (k : Nat) (p : EReal) (c : Mat n n) (i j : Fin n) : EReal :=
  c (ix2 i j) - Scalar.select
    (IntOp.andi (IntOp.cmpi .sgt (BitVec.ofNat 32 i.val) (Scf.iv 0#32 1#32 k)) (IntOp.cmpi .sgt (BitVec.ofNat 32 j.val) (Scf.iv 0#32 1#32 k)))
    (Ideal.div
      ((∑ x : Fin n, Scalar.select (IntOp.cmpi .eq (BitVec.ofNat 32 x.val) (Scf.iv 0#32 1#32 k)) (c (ix2 i x)) 0)
        * ∑ x : Fin n, Scalar.select (IntOp.cmpi .eq (BitVec.ofNat 32 x.val) (Scf.iv 0#32 1#32 k)) (c (ix2 x j)) 0)
      (if p = 0 then tiny else p))
    0

/-- The count after a trip with pivot `p`. -/
def countOf (p q : EReal) : EReal := q + (((Scalar.extui (BitVec.ofBool (decide (0 < p))) : BitVec 32).toInt : ℝ) : EReal)

theorem pivotOf_eq (hn : n ≤ 4096) (k : Fin n) (c : Mat n n) : pivotOf k.val c = c (ix2 k k) := by
  unfold pivotOf
  simp only [eq_word hn, and_word, select_word, ite_and]
  rw [Finset.sum_eq_single k, Finset.sum_eq_single k]
  · simp
  · intro y _ hy; simp [hy]
  · simp
  · intro x _ hx; simp [hx]
  · simp

theorem stepOf_eq (hn : n ≤ 4096) (k : Fin n) (p : EReal) (c : Mat n n) (i j : Fin n) :
    stepOf k.val p c i j
      = c (ix2 i j) - if k < i ∧ k < j then Ideal.div (c (ix2 i k) * c (ix2 k j)) (if p = 0 then tiny else p) else 0 := by
  unfold stepOf
  simp only [eq_word hn, gt_word hn, and_word, select_word, Finset.sum_ite_eq', Finset.mem_univ, if_true]

theorem countOf_pos {p : EReal} (hp : 0 < p) (q : EReal) : countOf p q = q + 1 := by
  unfold countOf
  rw [decide_eq_true hp]
  have : (Scalar.extui (BitVec.ofBool true) : BitVec 32).toInt = 1 := by decide
  rw [this]
  simp

/-- What a trip of the kernel's elimination does to the matrix and the count. -/
def Trips {N : Nat} (trip : Fin N → Mat n n × EReal → Mat n n × EReal) : Prop :=
  ∀ (t : Fin N) (s : Mat n n × EReal), (∀ i j, (trip t s).1 (ix2 i j) = stepOf t.val (pivotOf t.val s.1) s.1 i j)
    ∧ (trip t s).2 = countOf (pivotOf t.val s.1) s.2

/-- A fold keeps what each trip keeps. -/
theorem fold_keeps {N : Nat} {σ : Type} (Inv : Nat → σ → Prop) (g : Fin N → σ → σ) (step : ∀ (k : Fin N) s, Inv k.val s → Inv (k.val + 1) (g k s))
    {s : σ} (start : Inv 0 s) : Inv N (Scf.fold g s) := by
  rw [Scf.fold_eq]
  induction N with
  | zero => simpa using start
  | succ N ih =>
    rw [List.finRange_succ_last, List.foldl_append, List.foldl_map]
    exact step (Fin.last N) _ (ih (fun k => g k.castSucc) fun k s h => step k.castSucc s h)

/-- From a positive definite matrix every trip counts one. -/
theorem count_eq (hn : n ≤ 4096) {N : Nat} (hN : N = n) {trip : Fin N → Mat n n × EReal → Mat n n × EReal} (ht : Trips trip)
    {c : Mat n n} {r : Fin n → Fin n → ℝ} (h : Holds c r) (pos : PosFrom 0 r) :
    (Scf.fold trip (c, (0 : EReal))).2 = ((n : ℝ) : EReal) := by
  subst hN
  refine (fold_keeps (fun k s => (∃ r, Holds s.1 r ∧ PosFrom k r) ∧ s.2 = ((k : ℝ) : EReal)) trip (fun k s hs => ?_)
    (s := (c, (0 : EReal))) ⟨⟨r, h, pos⟩, by simp⟩).2
  obtain ⟨⟨r, h, pos⟩, hq⟩ := hs
  obtain ⟨h1, h2⟩ := ht k s
  have hp : pivotOf k.val s.1 = ((r k k : ℝ) : EReal) := (pivotOf_eq hn k s.1).trans (h k k)
  have p0 : 0 < r k k := pos.pivot
  have p0' : (0 : EReal) < ((r k k : ℝ) : EReal) := by exact_mod_cast p0
  refine ⟨⟨eliminate k r, fun i j => ?_, pos.step⟩, ?_⟩
  · rw [h1, stepOf_eq hn, hp, if_neg p0'.ne', h, h, h, ← EReal.coe_mul, div_coe _ p0.ne']
    unfold eliminate
    split
    · rw [← EReal.coe_sub]
    · simp
  · rw [h2, hp, countOf_pos p0', hq]
    push_cast
    rfl

end Cert.Rank

end
-- ==== Proof.Ranks.lean ====
/- The matrices the two eliminations start from and their trips, in the terms of `Power` and `Elimination`. -/
module

public import proofs.«01_k».proof.Proof.Found3
public import proofs.«01_k».proof.Proof.Elimination

@[expose] public section

noncomputable section

namespace Cert.Kernel3Ideal.Gen

open Idealize.ShloMosaic Idealize.ShloMosaic.TcCoe Cert.Rank

/-- The kernel's products and sums of 512 × 512 matrices. -/
def fillerOps : Ops 512 where
  mul a b := matmul dot_S512x512_S512x512_S512x512_1_0_0_1_n_n (some .fp32) a b (constant S512x512 .f32 0x00000000#32)
  act a b := matmul dot_S512x512_S512x1_S512x1_1_0_0_1_n_n (some .fp32) a b (constant S512x1 .f32 0x00000000#32)
  sumM a := extractAt ![0, 0, 0] (shapeCast S1x1x1 (multiReduction .add [1, 2] S1 (shapeCast S1x512x512 a shapeCasts_S512x512_S1x512x512)
    0x00000000#32 reduces_S1x512x512_S1 (.inl rfl) rfl) shapeCasts_S1_S1x1x1) inpos_S1x1x1_p0_0_0
  sumC a := extractAt ![0, 0, 0] (shapeCast S1x1x1 (multiReduction .add [1, 2] S1 (shapeCast S1x512x1 a shapeCasts_S512x1_S1x512x1)
    0x00000000#32 reduces_S1x512x1_S1 (.inl rfl) rfl) shapeCasts_S1_S1x1x1) inpos_S1x1x1_p0_0_0
  mul_eq a b i j := by pointwise
  act_eq a b i j := by pointwise
  sumM_eq a := by pointwise
  sumC_eq a := by
    pointwise
    simp

/-- The kernel's products and sums of 64 × 64 matrices. -/
def roleOps : Ops 64 where
  mul a b := matmul dot_S64x64_S64x64_S64x64_1_0_0_1_n_n (some .fp32) a b (constant S64x64 .f32 0x00000000#32)
  act a b := matmul dot_S64x64_S64x1_S64x1_1_0_0_1_n_n (some .fp32) a b (constant S64x1 .f32 0x00000000#32)
  sumM a := extractAt ![0, 0, 0] (shapeCast S1x1x1 (multiReduction .add [1, 2] S1 (shapeCast S1x64x64 a shapeCasts_S64x64_S1x64x64)
    0x00000000#32 reduces_S1x64x64_S1 (.inl rfl) rfl) shapeCasts_S1_S1x1x1) inpos_S1x1x1_p0_0_0
  sumC a := extractAt ![0, 0, 0] (shapeCast S1x1x1 (multiReduction .add [1, 2] S1 (shapeCast S1x64x1 a shapeCasts_S64x1_S1x64x1)
    0x00000000#32 reduces_S1x64x1_S1 (.inl rfl) rfl) shapeCasts_S1_S1x1x1) inpos_S1x1x1_p0_0_0
  mul_eq a b i j := by pointwise
  act_eq a b i j := by pointwise
  sumM_eq a := by pointwise
  sumC_eq a := by
    pointwise
    simp

/-- What the fillers' estimate is multiplied by: the square of the number of rows times the rounding unit. -/
abbrev fillerFraction : EReal :=
  Ideal.ofBits .f32 0x45800000#32 * Ideal.ofBits .f32 0x34000000#32 * (Ideal.ofBits .f32 0x45800000#32 * Ideal.ofBits .f32 0x34000000#32)

/-- The same of the roles. -/
abbrev roleFraction : EReal :=
  Ideal.ofBits .f32 0x44000000#32 * Ideal.ofBits .f32 0x34000000#32 * (Ideal.ofBits .f32 0x44000000#32 * Ideal.ofBits .f32 0x34000000#32)

theorem fillerStart_is (y : FVec Ideal S4096x512 .f32) : fillerStart y
    = subf (k0_pay4 y) (mulf (broadcast S512x512 (fillerOps.estimate (k0_pay4 y) * fillerFraction : EReal))
        (sitofp .f32 (extui 32 (cmpi .eq (iota .tc S512x512 32 [0] iota_S512x512_d0_w32) (iota .tc S512x512 32 [1] iota_S512x512_d1_w32)) natLt_1_32))) := rfl

theorem roleStart_is (v : FVec Ideal S64x64 .f32) : roleStart v
    = subf v (mulf (broadcast S64x64 (roleOps.estimate v * roleFraction : EReal)) (sitofp .f32 k0_pay25)) := rfl

theorem fillerStart_eq (y : FVec Ideal S4096x512 .f32) (i j : Fin 512) : fillerStart y (ix2 i j)
    = k0_pay4 y (ix2 i j) - fillerOps.estimate (k0_pay4 y) * fillerFraction * (if i = j then (1 : EReal) else 0) := by
  rw [fillerStart_is, ← Cert.Pen.delta_kernel (by decide)]
  generalize fillerOps.estimate (k0_pay4 y) * fillerFraction = q
  pointwise

theorem roleStart_eq (v : FVec Ideal S64x64 .f32) (i j : Fin 64) : roleStart v (ix2 i j)
    = v (ix2 i j) - roleOps.estimate v * roleFraction * (if i = j then (1 : EReal) else 0) := by
  rw [roleStart_is, ← Cert.Pen.delta_kernel (by decide)]
  generalize roleOps.estimate v * roleFraction = q
  unfold k0_pay25
  pointwise

theorem filler_pivot (t : Fin k0_t1_loop.trips) (c : FVec Ideal S512x512 .f32) : k0_pay16 t c = pivotOf (n := 512) t.val c := by
  unfold k0_pay16 k0_pay14 k0_pay15 pivotOf
  pointwise

theorem role_pivot (t : Fin k0_t2_loop.trips) (c : FVec Ideal S64x64 .f32) :
    k0_pay29 (iota .tc S64x64 32 [0] iota_S64x64_d0_w32) (iota .tc S64x64 32 [1] iota_S64x64_d1_w32) t c = pivotOf (n := 64) t.val c := by
  unfold k0_pay29 k0_pay27 k0_pay28 pivotOf
  pointwise

theorem filler_trips : Trips (n := 512) (fillerTrip (F := Ideal)) := by
  refine fun t s => ⟨fun i j => ?_, ?_⟩
  · rw [← filler_pivot]
    unfold fillerTrip k0_pay17 k0_pay14 k0_pay15 stepOf
    pointwise
  · rw [← filler_pivot]
    unfold fillerTrip k0_pay18 countOf
    pointwise

theorem role_trips : Trips (n := 64) (roleTrip (F := Ideal)) := by
  refine fun t s => ⟨fun i j => ?_, ?_⟩
  · rw [← role_pivot]
    unfold roleTrip k0_pay30 k0_pay27 k0_pay28 stepOf
    pointwise
  · rw [← role_pivot]
    unfold roleTrip k0_pay31 countOf
    pointwise

/-- The products of the roles' rows. -/
theorem rank_products_role (x : Vec Ideal S64x512 .f32) (i j : Fin 64) :
    k0_pay2 (F := Ideal) x (ix2 i j) = ∑ k : Fin 512, x (ix2 i k) * x (ix2 j k) := by
  unfold k0_pay2
  pointwise

/-- The products of the fillers' columns. -/
theorem rank_products_filler (x : Vec Ideal S4096x512 .f32) (k l : Fin 512) :
    k0_pay4 (F := Ideal) x (ix2 k l) = ∑ i : Fin 4096, x (ix2 i k) * x (ix2 i l) := by
  unfold k0_pay4
  pointwise

end Cert.Kernel3Ideal.Gen

end
-- ==== Proof.Decomposition.lean ====
/- What the precondition of the ranks says: the given singular value decompositions are such, and no singular value counts as zero. -/
module

public import proofs.«01_k».proof.Proof.Gen.Pre_full_rank
public import proofs.«01_k».proof.Proof.Elimination
public import proofs.«01_k».proof.Proof.Finite

@[expose] public section

noncomputable section

namespace Cert.Rank

open Idealize.ShloMosaic
open Cert.Pen (coe_sum)

variable {n r m : Nat}

/-- A vector of the program. -/
abbrev Lane (n : Nat) : Type := FVec Ideal ⟨1, ![n]⟩ .f32

/-- `w = u diag(s) v`, of finite entries, the columns of `u` and the rows of `v` orthonormal, every element of `s` above the
    fraction `f` of the largest. -/
structure Full (w : Mat n m) (u : Mat n r) (s : Lane r) (v : Mat r m) (f : EReal) : Prop where
  finite_u : ∀ i j, max (u (ix2 i j) : EReal) (-(u (ix2 i j))) < ⊤
  finite_s : ∀ i, max (s (ix1 i) : EReal) (-(s (ix1 i))) < ⊤
  finite_v : ∀ i j, max (v (ix2 i j) : EReal) (-(v (ix2 i j))) < ⊤
  columns : ∀ a b, ∑ k, u (ix2 k a) * u (ix2 k b) = if a = b then (1 : EReal) else 0
  rows : ∀ a b, ∑ k, v (ix2 a k) * v (ix2 b k) = if a = b then (1 : EReal) else 0
  product : ∀ i k, ∑ a, u (ix2 i a) * s (ix1 a) * v (ix2 a k) = w (ix2 i k)
  above : ∀ a, Finset.fold max (⊥ : EReal) (fun k => s (ix1 k)) Finset.univ * f < s (ix1 a)

theorem real_of_finite {x : EReal} (h : max x (-x) < ⊤) : x = (x.toReal : EReal) := by
  refine (EReal.coe_toReal (fun e => ?_) fun e => ?_).symm
  · rw [e] at h
    exact absurd (lt_of_le_of_lt (le_max_left _ _) h) (lt_irrefl _)
  · rw [e, EReal.neg_bot] at h
    exact absurd (lt_of_le_of_lt (le_max_right _ _) h) (lt_irrefl _)

/-- The same of real entries. -/
structure FullReal (W : Fin n → Fin m → ℝ) (U : Fin n → Fin r → ℝ) (s : Fin r → ℝ) (V : Fin r → Fin m → ℝ) (f : ℝ) : Prop where
  columns : ∀ a b, ∑ k, U k a * U k b = if a = b then 1 else 0
  rows : ∀ a b, ∑ k, V a k * V b k = if a = b then 1 else 0
  product : ∀ i k, W i k = ∑ a, U i a * s a * V a k
  above : ∃ M : ℝ, (∀ a, s a ≤ M) ∧ ∀ a, M * f < s a

theorem Full.real {w : Mat n m} {u : Mat n r} {s : Lane r} {v : Mat r m} {f : ℝ} (h : Full w u s v (f : EReal)) :
    ∃ (W : Fin n → Fin m → ℝ) (U : Fin n → Fin r → ℝ) (S : Fin r → ℝ) (V : Fin r → Fin m → ℝ), Holds w W ∧ FullReal W U S V f := by
  have hu : ∀ i j, u (ix2 i j) = ((EReal.toReal (u (ix2 i j)) : ℝ) : EReal) := fun i j => real_of_finite (h.finite_u i j)
  have hs : ∀ i, s (ix1 i) = ((EReal.toReal (s (ix1 i)) : ℝ) : EReal) := fun i => real_of_finite (h.finite_s i)
  have hv : ∀ i j, v (ix2 i j) = ((EReal.toReal (v (ix2 i j)) : ℝ) : EReal) := fun i j => real_of_finite (h.finite_v i j)
  refine ⟨fun i k => ∑ a, EReal.toReal (u (ix2 i a)) * EReal.toReal (s (ix1 a)) * EReal.toReal (v (ix2 a k)),
    fun i j => EReal.toReal (u (ix2 i j)), fun i => EReal.toReal (s (ix1 i)), fun i j => EReal.toReal (v (ix2 i j)), fun i k => ?_,
    fun a b => ?_, fun a b => ?_, fun _ _ => rfl, ?_⟩
  · rw [← h.product]
    simp only [coe_sum, EReal.coe_mul, ← hu, ← hs, ← hv]
  · have e := h.columns a b
    rw [Cert.Pen.coe_delta] at e
    refine EReal.coe_injective (Eq.trans ?_ e)
    simp only [coe_sum, EReal.coe_mul, ← hu]
  · have e := h.rows a b
    rw [Cert.Pen.coe_delta] at e
    refine EReal.coe_injective (Eq.trans ?_ e)
    simp only [coe_sum, EReal.coe_mul, ← hv]
  · by_cases hr : r = 0
    · subst hr
      exact ⟨0, fun a => a.elim0, fun a => a.elim0⟩
    · have ne : (Finset.univ : Finset (Fin r)).Nonempty := ⟨⟨0, Nat.pos_of_ne_zero hr⟩, Finset.mem_univ _⟩
      obtain ⟨b, -, hb⟩ := Finset.exists_mem_eq_sup Finset.univ ne fun k => (s (ix1 k) : EReal)
      have top : Finset.fold max (⊥ : EReal) (fun k => s (ix1 k)) Finset.univ = s (ix1 b) := hb
      refine ⟨EReal.toReal (s (ix1 b)), fun a => ?_, fun a => ?_⟩
      · have : (s (ix1 a) : EReal) ≤ s (ix1 b) := hb ▸ Finset.le_sup (f := fun k => (s (ix1 k) : EReal)) (Finset.mem_univ a)
        rw [hs a, hs b] at this
        exact_mod_cast this
      · have := h.above a
        rw [top, hs a, hs b] at this
        exact_mod_cast this

/-- A square `u`: the decomposition of the rows. -/
theorem FullReal.ofRows {W : Fin n → Fin m → ℝ} {U : Fin n → Fin n → ℝ} {s : Fin n → ℝ} {V : Fin n → Fin m → ℝ} {f : ℝ}
    (h : FullReal W U s V f) : Decomposed W (fun a i => U i a) s V := ⟨h.columns, h.rows, h.product⟩

/-- A square `v`: the decomposition of the columns. -/
theorem FullReal.ofColumns {W : Fin n → Fin m → ℝ} {U : Fin n → Fin m → ℝ} {s : Fin m → ℝ} {V : Fin m → Fin m → ℝ} {f : ℝ}
    (h : FullReal W U s V f) : Decomposed (fun k i => W i k) V s (fun a i => U i a) :=
  ⟨h.rows, h.columns, fun k i => (h.product i k).trans (Finset.sum_congr rfl fun a _ => by ring)⟩

theorem word_true {p : Prop} [Decidable p] : BitVec.ofBool (decide p) = 1#1 ↔ p := by
  by_cases h : p <;> simp [h]

theorem bottom_bits : Ideal.ofBits .f32 0xFF800000#32 = ⊥ := by
  simp [Ideal.ofBits, Ideal.ieee]

end Cert.Rank

namespace Cert.Pre_full_rank.Gen

open Idealize.ShloMosaic Cert.Pre_full_rank Cert.Rank

instance : Subsingleton S_.Idx := ⟨fun _ _ => funext fun a => a.elim0⟩

/-- The fraction of the largest singular value below which one of the roles counts as zero. -/
abbrev roleBelow : EReal := Ideal.ofBits .f32 0x38800000#32

/-- The same of the fillers. -/
abbrev fillerBelow : EReal := Ideal.ofBits .f32 0x3A000000#32

variable (w : FVec Ideal S64x512 .f32) (x : FVec Ideal S4096x512 .f32) (u : FVec Ideal S64x64 .f32) (s : FVec Ideal S64 .f32)
  (v : FVec Ideal S64x512 .f32) (p : FVec Ideal S4096x512 .f32) (q : FVec Ideal S512 .f32) (g : FVec Ideal S512x512 .f32)

/-- What holds of an element that passes a test holds of each where all pass. -/
theorem of_all {t : Shape} {axes : List (Fin t.rank)} {x : t.Idx → BitVec 1} {init : S_.Idx → BitVec 1} {h : t.ReducesTo axes S_}
    {hu : 0 < S_.numel} (e : Host.reduce IntOp.andi x init h hu ix0 = 1#1) (i : t.Idx) {c : Prop} (k : x i = 1#1 → c) : c :=
  k (Host.reduce_andi_all x init h hu ix0 e i)

/-- Both decompositions are full, by what the precondition says. -/
theorem full_of_pre (h : fn (F := Ideal) w x u s v p q g = fun _ => 1#1) :
    Full (n := 64) (r := 64) (m := 512) w u s v roleBelow ∧ Full (n := 4096) (r := 512) (m := 512) x p q g fillerBelow := by
  have e := congrFun h ix0
  unfold fn fn_part1 fn_part2 fn_part3 fn_part4 fn_part5 at e
  obtain ⟨e, ef⟩ := IntOp.andi_eq_one.1 e
  obtain ⟨e, e48⟩ := IntOp.andi_eq_one.1 e
  obtain ⟨e, e41⟩ := IntOp.andi_eq_one.1 e
  obtain ⟨e, e33⟩ := IntOp.andi_eq_one.1 e
  obtain ⟨e, e23⟩ := IntOp.andi_eq_one.1 e
  obtain ⟨e, e12⟩ := IntOp.andi_eq_one.1 e
  obtain ⟨e3, e7⟩ := IntOp.andi_eq_one.1 e
  obtain ⟨ef, e98⟩ := IntOp.andi_eq_one.1 ef
  obtain ⟨ef, e91⟩ := IntOp.andi_eq_one.1 ef
  obtain ⟨ef, e83⟩ := IntOp.andi_eq_one.1 ef
  obtain ⟨ef, e73⟩ := IntOp.andi_eq_one.1 ef
  obtain ⟨ef, e62⟩ := IntOp.andi_eq_one.1 ef
  obtain ⟨e53, e57⟩ := IntOp.andi_eq_one.1 ef
  refine ⟨⟨fun i j => of_all e3 (ix2 i j) ?_, fun i => of_all e7 (ix1 i) ?_, fun i j => of_all e12 (ix2 i j) ?_,
      fun a b => of_all e23 (ix2 a b) ?_, fun a b => of_all e33 (ix2 a b) ?_, fun i k => of_all e41 (ix2 i k) ?_, fun a => of_all e48 (ix1 a) ?_⟩,
    ⟨fun i j => of_all e53 (ix2 i j) ?_, fun i => of_all e57 (ix1 i) ?_, fun i j => of_all e62 (ix2 i j) ?_,
      fun a b => of_all e73 (ix2 a b) ?_, fun a b => of_all e83 (ix2 a b) ?_, fun i k => of_all e91 (ix2 i k) ?_, fun a => of_all e98 (ix1 a) ?_⟩⟩
  all_goals
    clear * -
    pointwise
    simp only [Cert.Pen.inf_bits, bottom_bits, Cert.Pen.delta_reference (n := 64) (by decide), Cert.Pen.delta_reference (n := 512) (by decide), word_true]
    exact id

end Cert.Pre_full_rank.Gen

end
-- ==== Proof.Counts.lean ====
/- The counts at full rank: the kernel's eliminations count every pivot, the reference every singular value. -/
module

public import proofs.«01_k».proof.Proof.Ranks
public import proofs.«01_k».proof.Proof.Decomposition
public import proofs.«01_k».proof.Proof.Gen.Reference3Ideal.Run

@[expose] public section

noncomputable section

namespace Cert.Rank

open Idealize.ShloMosaic
open Cert.Pen (coe_sum)

variable {n m : Nat}

/-- The products of real rows are real. -/
theorem gram_holds {c : Mat n n} {X : Fin n → Fin m → EReal} {R : Fin n → Fin m → ℝ} (hX : ∀ i k, X i k = (R i k : EReal))
    (hc : ∀ i j, c (ix2 i j) = ∑ k, X i k * X j k) : Holds c fun i j => ∑ k, R i k * R j k := fun i j => by
  rw [hc]
  simp only [coe_sum, EReal.coe_mul, hX]

/-- The matrix with the estimate's fraction taken off its diagonal is positive definite. -/
theorem start_posFrom (o : Ops n) {c start : Mat n n} {X : Fin n → Fin m → ℝ} {P : Fin n → Fin n → ℝ} {s : Fin n → ℝ} {Q : Fin n → Fin m → ℝ}
    (hc : Holds c fun i j => ∑ k, X i k * X j k) (h : Decomposed X P s Q) {M f : ℝ} (f0 : 0 ≤ f) (f1 : f < 1) (le : ∀ a, s a ≤ M)
    (lt : ∀ a, M * f < s a)
    (hs : ∀ i j, start (ix2 i j) = c (ix2 i j) - o.estimate c * ((f * f : ℝ) : EReal) * (if i = j then (1 : EReal) else 0)) :
    ∃ r, Holds start r ∧ PosFrom 0 r := by
  obtain ⟨w, hw, he⟩ := o.estimate_real hc
  refine ⟨_, fun i j => ?_, h.posFrom f0 f1 le lt hw⟩
  rw [hs, hc, he, Cert.Pen.coe_delta, ← EReal.coe_mul, ← EReal.coe_mul, ← EReal.coe_sub]
  rfl

/-- As many ones add up to as many. -/
theorem ones_add {ι : Type} [DecidableEq ι] (s : Finset ι) : Finset.fold IntOp.addi 0#32 (fun _ => 1#32) s = BitVec.ofNat 32 s.card := by
  induction s using Finset.induction_on with
  | empty => rfl
  | insert a s ha ih =>
    rw [Finset.fold_insert ha, ih, Finset.card_insert_of_notMem ha, BitVec.ofNat_add, BitVec.add_comm]
    rfl

end Cert.Rank

namespace Cert.Kernel3Ideal.Gen

open Idealize.ShloMosaic Idealize.ShloMosaic.TcCoe Cert.Rank Cert.Pre_full_rank.Gen

theorem roleFraction_bits : roleFraction = ((1 / 16384 * (1 / 16384) : ℝ) : EReal) := by
  simp [roleFraction, Ideal.ofBits, Ideal.ieee]
  simp only [← EReal.coe_mul]
  norm_num

theorem fillerFraction_bits : fillerFraction = ((1 / 2048 * (1 / 2048) : ℝ) : EReal) := by
  simp [fillerFraction, Ideal.ofBits, Ideal.ieee]
  simp only [← EReal.coe_mul]
  norm_num

theorem roleBelow_bits : roleBelow = ((1 / 16384 : ℝ) : EReal) := by
  simp [roleBelow, Ideal.ofBits, Ideal.ieee]
  rw [← EReal.coe_mul]
  norm_num

theorem fillerBelow_bits : fillerBelow = ((1 / 2048 : ℝ) : EReal) := by
  simp [fillerBelow, Ideal.ofBits, Ideal.ieee]
  rw [← EReal.coe_mul]
  norm_num

/-- All 64 pivots of the roles count. -/
theorem role_count {w : FVec Ideal S64x512 .f32} {u : Mat 64 64} {s : Lane 64} {v : Mat 64 512}
    (h : Full (n := 64) (r := 64) (m := 512) w u s v roleBelow) : (roleFold w).2 = (((64 : Nat) : ℝ) : EReal) := by
  rw [roleBelow_bits] at h
  obtain ⟨W, U, s, V, hW, hf⟩ := h.real
  obtain ⟨M, le, lt⟩ := hf.above
  obtain ⟨r, hr, pos⟩ := start_posFrom roleOps (gram_holds hW (rank_products_role w)) hf.ofRows (by norm_num) (by norm_num) le lt
    fun i j => (roleStart_eq (k0_pay2 w) i j).trans (by rw [roleFraction_bits])
  have z : (Scalar.ofBits .f32 0x00000000#32 : Ideal .f32) = (0 : EReal) := Ideal.ofBits_zero_f32
  unfold roleFold
  rw [z]
  exact count_eq (by decide) rfl role_trips hr pos

/-- All 512 pivots of the fillers count. -/
theorem filler_count {x : FVec Ideal S4096x512 .f32} {u : Mat 4096 512} {s : Lane 512} {v : Mat 512 512}
    (h : Full (n := 4096) (r := 512) (m := 512) x u s v fillerBelow) : (fillerFold x).2 = (((512 : Nat) : ℝ) : EReal) := by
  rw [fillerBelow_bits] at h
  obtain ⟨W, U, s, V, hW, hf⟩ := h.real
  obtain ⟨M, le, lt⟩ := hf.above
  obtain ⟨r, hr, pos⟩ := start_posFrom fillerOps
    (gram_holds (X := fun k i => x (ix2 i k)) (fun k i => hW i k) (rank_products_filler x)) hf.ofColumns (by norm_num) (by norm_num) le lt
    fun i j => (fillerStart_eq x i j).trans (by rw [fillerFraction_bits])
  have z : (Scalar.ofBits .f32 0x00000000#32 : Ideal .f32) = (0 : EReal) := Ideal.ofBits_zero_f32
  unfold fillerFold
  rw [z]
  exact count_eq (by decide) rfl filler_trips hr pos

theorem c64_bits : Ideal.ofBits .f32 0x42800000#32 = ((64 : ℝ) : EReal) := by
  simp [Ideal.ofBits, Ideal.ieee]
  rw [← EReal.coe_mul]
  norm_num

theorem c63_bits : Ideal.ofBits .f32 0x427C0000#32 = ((63 : ℝ) : EReal) := by
  simp [Ideal.ofBits, Ideal.ieee]
  rw [← EReal.coe_mul]
  norm_num

theorem c4095_bits : Ideal.ofBits .f32 0x457FF000#32 = ((4095 : ℝ) : EReal) := by
  simp [Ideal.ofBits, Ideal.ieee]
  rw [← EReal.coe_mul]
  norm_num

/-- The share the roles miss to 64, from the count 64. -/
theorem role_share : k0_pay32 (F := Ideal) (((64 : Nat) : ℝ) : EReal) = ((0 : ℝ) : EReal) := by
  show Ideal.div (Ideal.ofBits .f32 0x42800000#32 - _) (Ideal.ofBits .f32 0x427C0000#32) = _
  rw [c64_bits, c63_bits, ← EReal.coe_sub, div_coe _ (by norm_num)]
  norm_num

/-- The share the fillers miss to 4096, from the count 512. -/
theorem filler_share : k0_pay33 (F := Ideal) (((512 : Nat) : ℝ) : EReal) = ((3584 / 4095 : ℝ) : EReal) := by
  show Ideal.div (Ideal.ofBits .f32 0x45800000#32 - _) (Ideal.ofBits .f32 0x45800000#32 - Ideal.ofBits .f32 0x3F800000#32) = _
  rw [Cert.Pen.rows_bits, Ops.one_bits, ← EReal.coe_sub, ← EReal.coe_sub, div_coe _ (by norm_num)]
  norm_num

end Cert.Kernel3Ideal.Gen

namespace Cert.Reference3Ideal.Gen

open Idealize.ShloMosaic Idealize.ShloMosaic.TcCoe Cert.Rank Cert.Pre_full_rank.Gen

/-- The reference's share of the roles. -/
abbrev roleShare (s : FVec Ideal S64 .f32) : FVec Ideal S_ .f32 :=
  Host.divf (sitofp .f32 (subi (constantI S_ 32 64#32) (Host.reduce IntOp.addi (extui 32 (cmpf .ogt s (broadcastInDim S64 ![] bcast_S_S64 (mulf (Host.reduce FloatOps.maximumf s (constant S_ .f32 0xFF800000#32) reducesTo_S64_S_d0 h_S_) (constant S_ .f32 0x38800000#32)))) natLt_1_32) (constantI S_ 32 0#32) reducesTo_S64_S_d0 h_S_))) (constant S_ .f32 0x427C0000#32)

/-- The reference's share of the fillers. -/
abbrev fillerShare (s : FVec Ideal S512 .f32) : FVec Ideal S_ .f32 :=
  Host.divf (sitofp .f32 (subi (constantI S_ 32 4096#32) (Host.reduce IntOp.addi (extui 32 (cmpf .ogt s (broadcastInDim S512 ![] bcast_S_S512 (mulf (Host.reduce FloatOps.maximumf s (constant S_ .f32 0xFF800000#32) reducesTo_S512_S_d0 h_S_) (constant S_ .f32 0x3A000000#32)))) natLt_1_32) (constantI S_ 32 0#32) reducesTo_S512_S_d0 h_S_))) (constant S_ .f32 0x457FF000#32)

theorem one_word : BitVec.setWidth 32 (BitVec.ofBool true) = 1#32 := rfl

theorem roleShare_apply {w : Mat 64 512} {u : Mat 64 64} {s : FVec Ideal S64 .f32} {v : Mat 64 512}
    (h : Full (n := 64) (r := 64) (m := 512) w u s v roleBelow) (j : S_.Idx) : roleShare s j = ((0 : ℝ) : EReal) := by
  unfold roleShare
  pointwise
  simp only [bottom_bits, decide_eq_true (h.above _), one_word, ones_add, Finset.card_univ, Fintype.card_fin]
  have e : (FloatOps.sitofp FTy.f32 (IntOp.subi 64#32 64#32) : Ideal .f32) = ((0 : ℝ) : EReal) := by
    show (((IntOp.subi 64#32 64#32).toInt : ℝ) : EReal) = _
    rw [show (IntOp.subi 64#32 64#32).toInt = 0 from by decide]
    norm_num
  rw [e, Cert.Kernel3Ideal.Gen.c63_bits, div_coe _ (by norm_num)]
  norm_num

theorem fillerShare_apply {w : Mat 4096 512} {u : Mat 4096 512} {s : FVec Ideal S512 .f32} {v : Mat 512 512}
    (h : Full (n := 4096) (r := 512) (m := 512) w u s v fillerBelow) (j : S_.Idx) : fillerShare s j = ((3584 / 4095 : ℝ) : EReal) := by
  unfold fillerShare
  pointwise
  simp only [bottom_bits, decide_eq_true (h.above _), one_word, ones_add, Finset.card_univ, Fintype.card_fin]
  have e : (FloatOps.sitofp FTy.f32 (IntOp.subi 4096#32 512#32) : Ideal .f32) = ((3584 : ℝ) : EReal) := by
    show (((IntOp.subi 4096#32 512#32).toInt : ℝ) : EReal) = _
    rw [show (IntOp.subi 4096#32 512#32).toInt = 3584 from by decide]
    norm_num
  rw [e, Cert.Kernel3Ideal.Gen.c4095_bits, div_coe _ (by norm_num)]

end Cert.Reference3Ideal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite_fillers
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_full_rank
public import proofs.«01_k».proof.Proof.Columns
public import proofs.«01_k».proof.Proof.Rows
public import proofs.«01_k».proof.Proof.Stats
public import proofs.«01_k».proof.Proof.Finite
public import proofs.«01_k».proof.Proof.Shares
public import proofs.«01_k».proof.Proof.Counts
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The frame of the reference, which launches no kernel and holds no semaphore. -/
theorem frame_ReferenceIdeal : Cert.quiescent_ReferenceIdeal (hReferenceIdeal := Cert.ReferenceIdeal.Gen.facts) :=
  fun m ρ _ => (θ_run Cert.ReferenceIdeal.defs _ _).mono
    (fun r h => ⟨fun c => ⟨(h c).2.2.1, (h c).2.2.2⟩, Idealize.ShloMosaic.sem_eq_zero_of_no_sems (by decide) r.2⟩)
    (Cert.ReferenceIdeal.Value.run (F := Ideal) m ρ)

/-- Both programs return the fillers of every row in the order that sorts the keys of that row, stably. -/
theorem sorts_alike : Cert.algebraic_KernelIdeal_ReferenceIdeal (hKernelIdeal := Cert.KernelIdeal.Gen.facts)
    (hReferenceIdeal := Cert.ReferenceIdeal.Gen.facts) := by
  intro m ρ m' ρ' _ hagree
  refine ⟨fun c => shapeCast Cert.KernelIdeal.S512x32768
      (Cert.Net.bound (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      Cert.KernelIdeal.Gen.facts.shapeCasts_S512x64x512_S512x32768,
    fun c => Cert.Net.bound (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun r h c => ?_) (Cert.ReferenceIdeal.Value.run (F := Ideal) m' ρ')
  have h0 := (h c).1.trans (Cert.ReferenceIdeal.Rows.out0_eq m' c)
  have h1 := (h c).2.1.trans (Cert.ReferenceIdeal.Rows.out1_eq m' c)
  rw [(hagree c).1, (hagree c).2] at h0 h1
  exact ⟨h0, h1, (h c).2.2.1, (h c).2.2.2⟩

/-- The frame of the penalties' reference, which launches no kernel and holds no semaphore. -/
theorem frame_Reference2Ideal : Cert.quiescent_Reference2Ideal (hReference2Ideal := Cert.Reference2Ideal.Gen.facts) :=
  fun m ρ _ => (θ_run Cert.Reference2Ideal.defs _ _).mono
    (fun r h => ⟨fun c => ⟨(h c).2.2.2.1, (h c).2.2.2.2⟩, Idealize.ShloMosaic.sem_eq_zero_of_no_sems (by decide) r.2⟩)
    (Cert.Reference2Ideal.Value.run (F := Ideal) m ρ)

/-- Both programs return the same loss and the same two penalties while every filler is real. -/
theorem penalties_alike : Cert.algebraic_Kernel2Ideal_Reference2Ideal_pre_finite_fillers
    (hKernel2Ideal := Cert.Kernel2Ideal.Gen.facts) (hReference2Ideal := Cert.Reference2Ideal.Gen.facts)
    (hPre_finite_fillers := Cert.Pre_finite_fillers.Gen.facts) := by
  intro m ρ m' ρ' hpre hagree
  refine ⟨fun c _ => Cert.Pen.weight * Cert.Kernel2Ideal.Stats.roleOf m c + Cert.Pen.weight * Cert.Kernel2Ideal.Stats.fillerOf m c,
    fun c _ => Cert.Kernel2Ideal.Stats.roleOf m c, fun c _ => Cert.Kernel2Ideal.Stats.fillerOf m c,
    Cert.Kernel2Ideal.Stats.run m ρ, ?_⟩
  refine (θ_run Cert.Reference2Ideal.defs _ _).mono (fun r h c => ?_) (Cert.Reference2Ideal.Value.run (F := Ideal) m' ρ')
  obtain ⟨h0, h1, h2, h3, h4⟩ := h c
  have hr : ∀ j, Cert.Reference2Ideal.Gen.roleTerm (m ((c.tc : Thread Cert.Kernel2Ideal.nD Cert.Kernel2Ideal.τ).loc Cert.Kernel2Ideal.main_arg0)) j
      = Cert.Kernel2Ideal.Stats.roleOf m c := fun j => Cert.Reference2Ideal.Gen.roleTerm_apply _ j
  have hf : ∀ j, Cert.Reference2Ideal.Gen.fillerTerm (m ((c.tc : Thread Cert.Kernel2Ideal.nD Cert.Kernel2Ideal.τ).loc Cert.Kernel2Ideal.main_arg1)) j
      = Cert.Kernel2Ideal.Stats.fillerOf m c := fun j => (Cert.Reference2Ideal.Gen.fillerTerm_apply _ j).trans
    (congrArg Ideal.sqrt (Cert.Pen.defect_eq_expanded_of_finite _ fun i k => Cert.Pen.finite_of_pre _ _ (hpre c) (ix2 i k)))
  rw [(hagree c).1, (hagree c).2] at h0
  rw [(hagree c).1] at h1
  rw [(hagree c).2] at h2
  refine ⟨h0.trans (funext fun j => ?_), h1.trans (funext hr), h2.trans (funext hf), h3, h4⟩
  exact (Cert.Reference2Ideal.Gen.lossTerm_apply _ _ j).trans
    (congrArg₂ (fun a b : EReal => Cert.Pen.weight * a + Cert.Pen.weight * b) (hr ix0) (hf ix0))

theorem frame_Reference3Ideal : Cert.quiescent_Reference3Ideal (hReference3Ideal := Cert.Reference3Ideal.Gen.facts) :=
  fun m ρ _ => (θ_run Cert.Reference3Ideal.defs _ _).mono
    (fun r h => ⟨fun c => (h c).2.2, Idealize.ShloMosaic.sem_eq_zero_of_no_sems (by decide) r.2⟩)
    (Cert.Reference3Ideal.Value.run (F := Ideal) m ρ)

theorem ranks_alike : Cert.algebraic_Kernel3Ideal_Reference3Ideal_pre_full_rank
    (hKernel3Ideal := Cert.Kernel3Ideal.Gen.facts) (hReference3Ideal := Cert.Reference3Ideal.Gen.facts)
    (hPre_full_rank := Cert.Pre_full_rank.Gen.facts) := by
  intro m ρ m' ρ' hpre hagree
  refine ⟨fun c _ => Cert.Kernel3Ideal.Stats.roleOf m c, fun c _ => Cert.Kernel3Ideal.Stats.fillerOf m c,
    Cert.Kernel3Ideal.Stats.run m ρ, ?_⟩
  refine (θ_run Cert.Reference3Ideal.defs _ _).mono (fun r h c => ?_) (Cert.Reference3Ideal.Value.run (F := Ideal) m' ρ')
  obtain ⟨h0, h1, rest⟩ := h c
  obtain ⟨fullRole, fullFiller⟩ := Cert.Pre_full_rank.Gen.full_of_pre _ _ _ _ _ _ _ _ (hpre c)
  rw [(hagree c).2.2.2.1] at h0
  rw [(hagree c).2.2.2.2.2.2.1] at h1
  refine ⟨h0.trans (funext fun j => ?_), h1.trans (funext fun j => ?_), rest⟩
  · refine (Cert.Reference3Ideal.Gen.roleShare_apply fullRole j).trans ?_
    show _ = Cert.Kernel3Ideal.Gen.k0_pay32 (F := Ideal) _
    rw [Cert.Kernel3Ideal.Gen.role_count fullRole, Cert.Kernel3Ideal.Gen.role_share]
  · refine (Cert.Reference3Ideal.Gen.fillerShare_apply fullFiller j).trans ?_
    show _ = Cert.Kernel3Ideal.Gen.k0_pay33 (F := Ideal) _
    rw [Cert.Kernel3Ideal.Gen.filler_count fullFiller, Cert.Kernel3Ideal.Gen.filler_share]

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite_fillers.Gen.facts, Cert.Pre_full_rank.Gen.facts,
    fun m ρ _ => Cert.Kernel.Gen.frame m ρ, fun m ρ _ => Cert.KernelIdeal.Gen.frame m ρ, frame_ReferenceIdeal,
    fun m ρ _ => Cert.Kernel2.Gen.frame m ρ, fun m ρ _ => Cert.Kernel2Ideal.Gen.frame m ρ,
    fun m ρ _ => Cert.Kernel2Ideal.Gen.frame m ρ, frame_Reference2Ideal, fun m ρ _ => frame_Reference2Ideal m ρ trivial,
    fun m ρ _ => Cert.Kernel3.Gen.frame m ρ, fun m ρ _ => Cert.Kernel3Ideal.Gen.frame m ρ,
    fun m ρ _ => Cert.Kernel3Ideal.Gen.frame m ρ, frame_Reference3Ideal, fun m ρ _ => frame_Reference3Ideal m ρ trivial,
    trivial, sorts_alike, trivial, penalties_alike, trivial, ranks_alike⟩

end Cert.Proof

end
